-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_v303) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)) (v5 : (c : Dev Cert.Kernel3Ideal.nD) → Buf (Elt Ideal) ((c.tc : Thread Cert.Kernel3Ideal.nD Cert.Kernel3Ideal.τ).loc Cert.Kernel3Ideal.main_v29_7)) (v6 : (c : Dev Cert.Kernel3Ideal.nD) → Buf (Elt Ideal) ((c.tc : Thread Cert.Kernel3Ideal.nD Cert.Kernel3Ideal.τ).loc Cert.Kernel3Ideal.main_v29_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_v29_7) = v5 c
          ∧ r.2.mem ((c.tc : Thread Cert.Kernel3Ideal.nD Cert.Kernel3Ideal.τ).loc Cert.Kernel3Ideal.main_v29_9) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_v49) = v3 c
          ∧ r.2.mem ((c.tc : Thread Cert.Reference3Ideal.nD Cert.Reference3Ideal.τ).loc Cert.Reference3Ideal.main_v51) = v4 c
          ∧ r.2.mem ((c.tc : Thread Cert.Reference3Ideal.nD Cert.Reference3Ideal.τ).loc Cert.Reference3Ideal.main_v53) = v5 c
          ∧ r.2.mem ((c.tc : Thread Cert.Reference3Ideal.nD Cert.Reference3Ideal.τ).loc Cert.Reference3Ideal.main_v55) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v21_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x2048x1024 : Shape := ⟨3, ![16, 2048, 1024]⟩
abbrev S16x2048x512 : Shape := ⟨3, ![16, 2048, 512]⟩
abbrev S16x2048x32 : Shape := ⟨3, ![16, 2048, 32]⟩
abbrev S2x4x64 : Shape := ⟨3, ![2, 4, 64]⟩
abbrev S2x256 : Shape := ⟨2, ![2, 256]⟩
abbrev S2x4x128x128 : Shape := ⟨4, ![2, 4, 128, 128]⟩
abbrev S2x4x128 : Shape := ⟨3, ![2, 4, 128]⟩
abbrev S1x16x1x2048x1x32 : Shape := ⟨6, ![1, 16, 1, 2048, 1, 32]⟩
abbrev S1x16x1x2048x4x32 : Shape := ⟨6, ![1, 16, 1, 2048, 4, 32]⟩
abbrev S16x2048x128 : Shape := ⟨3, ![16, 2048, 128]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S4x128 : Shape := ⟨2, ![4, 128]⟩
abbrev S4x128x1 : Shape := ⟨3, ![4, 128, 1]⟩
abbrev S4x128x64 : Shape := ⟨3, ![4, 128, 64]⟩
abbrev S4x64x64 : Shape := ⟨3, ![4, 64, 64]⟩
abbrev S1x4x64 : Shape := ⟨3, ![1, 4, 64]⟩
abbrev S4x64 : Shape := ⟨2, ![4, 64]⟩
abbrev S4x1x64 : Shape := ⟨3, ![4, 1, 64]⟩
abbrev S1x256 : Shape := ⟨2, ![1, 256]⟩
abbrev S256 : Shape := ⟨1, ![256]⟩
abbrev S1x4x128x128 : Shape := ⟨4, ![1, 4, 128, 128]⟩
abbrev S1x4x128 : Shape := ⟨3, ![1, 4, 128]⟩
abbrev S16x2048x256 : Shape := ⟨3, ![16, 2048, 256]⟩
abbrev S2x128x1024 : Shape := ⟨3, ![2, 128, 1024]⟩
abbrev S2x128x512 : Shape := ⟨3, ![2, 128, 512]⟩
abbrev S2x128x128 : Shape := ⟨3, ![2, 128, 128]⟩
abbrev S2x128x256 : Shape := ⟨3, ![2, 128, 256]⟩
abbrev S2x4x64x64 : Shape := ⟨4, ![2, 4, 64, 64]⟩
abbrev S1x128x256 : Shape := ⟨3, ![1, 128, 256]⟩
abbrev S128x256 : Shape := ⟨2, ![128, 256]⟩
abbrev S128x64 : Shape := ⟨2, ![128, 64]⟩
abbrev S1x1x64x64 : Shape := ⟨4, ![1, 1, 64, 64]⟩
abbrev S64x64 : Shape := ⟨2, ![64, 64]⟩
abbrev S1x128x64 : Shape := ⟨3, ![1, 128, 64]⟩
abbrev S1x64x64 : Shape := ⟨3, ![1, 64, 64]⟩
abbrev S64x128 : Shape := ⟨2, ![64, 128]⟩
abbrev S1x1x64 : Shape := ⟨3, ![1, 1, 64]⟩
abbrev S1x64 : Shape := ⟨2, ![1, 64]⟩

abbrev nBuf : Space → Nat
  | .hbm => 90
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x32, .f32⟩
  | .hbm, ⟨3, _⟩ => ⟨S16x2048x32, .f32⟩
  | .hbm, ⟨4, _⟩ => ⟨S2x4x64, .f32⟩
  | .hbm, ⟨5, _⟩ => ⟨S2x256, .f32⟩
  | .hbm, ⟨6, _⟩ => ⟨S2x4x128x128, .f32⟩
  | .hbm, ⟨7, _⟩ => ⟨S2x4x128, .f32⟩
  | .hbm, ⟨8, _⟩ => ⟨S1x16x1x2048x1x32, .f32⟩
  | .hbm, ⟨9, _⟩ => ⟨S1x16x1x2048x4x32, .f32⟩
  | .hbm, ⟨10, _⟩ => ⟨S16x2048x128, .f32⟩
  | .hbm, ⟨11, _⟩ => ⟨S1x16x1x2048x1x32, .f32⟩
  | .hbm, ⟨12, _⟩ => ⟨S1x16x1x2048x4x32, .f32⟩
  | .hbm, ⟨13, _⟩ => ⟨S16x2048x128, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S128, .f32⟩
  | .hbm, ⟨24, _⟩ => ⟨S128x1, .f32⟩
  | .hbm, ⟨25, _⟩ => ⟨S1x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .i1⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S1x128x128, .f32⟩
  | .hbm, ⟨36, _⟩ => ⟨S4x1x1, .f32⟩
  | .hbm, ⟨37, _⟩ => ⟨S4x128x128, .f32⟩
  | .hbm, ⟨38, _⟩ => ⟨S4x128x128, .f32⟩
  | .hbm, ⟨39, _⟩ => ⟨S4x128x128, .f32⟩
  | .hbm, ⟨40, _⟩ => ⟨S4x128x128, .f32⟩
  | .hbm, ⟨41, _⟩ => ⟨S_, .f32⟩
  | .hbm, ⟨42, _⟩ => ⟨S_, .f32⟩
  | .hbm, ⟨43, _⟩ => ⟨S4x128x128, .i1⟩
  | .hbm, ⟨44, _⟩ => ⟨S4x128x128, .f32⟩
  | .hbm, ⟨45, _⟩ => ⟨S4x128x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128x1, .f32⟩
  | .hbm, ⟨50, _⟩ => ⟨S1x4, .f32⟩
  | .hbm, ⟨51, _⟩ => ⟨S128x4, .f32⟩
  | .hbm, ⟨52, _⟩ => ⟨S128x4, .f32⟩
  | .hbm, ⟨53, _⟩ => ⟨S128x4, .f32⟩
  | .hbm, ⟨54, _⟩ => ⟨S128x4, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128x1, .f32⟩
  | .hbm, ⟨59, _⟩ => ⟨S1x4, .f32⟩
  | .hbm, ⟨60, _⟩ => ⟨S128x4, .f32⟩
  | .hbm, ⟨61, _⟩ => ⟨S128x4, .f32⟩
  | .hbm, ⟨62, _⟩ => ⟨S128x4, .f32⟩
  | .hbm, ⟨63, _⟩ => ⟨S128x4, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4x128, .f32⟩
  | .hbm, ⟨69, _⟩ => ⟨S4x128x1, .f32⟩
  | .hbm, ⟨70, _⟩ => ⟨S4x128x64, .f32⟩
  | .hbm, ⟨71, _⟩ => ⟨S4x128, .f32⟩
  | .hbm, ⟨72, _⟩ => ⟨S4x128x1, .f32⟩
  | .hbm, ⟨73, _⟩ => ⟨S4x128x64, .f32⟩
  | .hbm, ⟨74, _⟩ => ⟨S4x1x1, .f32⟩
  | .hbm, ⟨75, _⟩ => ⟨S4x64x64, .f32⟩
  | .hbm, ⟨76, _⟩ => ⟨S1x4x64, .f32⟩
  | .hbm, ⟨77, _⟩ => ⟨S4x64, .f32⟩
  | .hbm, ⟨78, _⟩ => ⟨S4x1x64, .f32⟩
  | .hbm, ⟨79, _⟩ => ⟨S1x256, .f32⟩
  | .hbm, ⟨80, _⟩ => ⟨S256, .f32⟩
  | .hbm, ⟨81, _⟩ => ⟨S1x256, .f32⟩
  | .hbm, ⟨82, _⟩ => ⟨S1x4x128x128, .f32⟩
  | .hbm, ⟨83, _⟩ => ⟨S4x128x128, .f32⟩
  | .hbm, ⟨84, _⟩ => ⟨S1x4x128, .f32⟩
  | .hbm, ⟨85, _⟩ => ⟨S4x128, .f32⟩
  | .hbm, ⟨86, _⟩ => ⟨S4x128x1, .f32⟩
  | .hbm, ⟨87, _⟩ => ⟨S4x128x64, .f32⟩
  | .hbm, ⟨88, _⟩ => ⟨S16x2048x256, .bf16⟩
  | .hbm, ⟨89, _⟩ => ⟨S16x2048x256, .bf16⟩
  | .local _ .vmem, ⟨0, _⟩ => ⟨S2x128x1024, .f32⟩
  | .local _ .vmem, ⟨1, _⟩ => ⟨S2x128x1024, .f32⟩
  | .local _ .vmem, ⟨2, _⟩ => ⟨S2x128x512, .f32⟩
  | .local _ .vmem, ⟨3, _⟩ => ⟨S2x128x512, .f32⟩
  | .local _ .vmem, ⟨4, _⟩ => ⟨S2x128x128, .f32⟩
  | .local _ .vmem, ⟨5, _⟩ => ⟨S2x128x128, .f32⟩
  | .local _ .vmem, ⟨6, _⟩ => ⟨S2x128x128, .f32⟩
  | .local _ .vmem, ⟨7, _⟩ => ⟨S2x128x128, .f32⟩
  | .local _ .vmem, ⟨8, _⟩ => ⟨S4x128x128, .f32⟩
  | .local _ .vmem, ⟨9, _⟩ => ⟨S4x128x64, .f32⟩
  | .local _ .vmem, ⟨10, _⟩ => ⟨S4x128x64, .f32⟩
  | .local _ .vmem, ⟨11, _⟩ => ⟨S4x64x64, .f32⟩
  | .local _ .vmem, ⟨12, _⟩ => ⟨S4x1x64, .f32⟩
  | .local _ .vmem, ⟨13, _⟩ => ⟨S1x256, .f32⟩
  | .local _ .vmem, ⟨14, _⟩ => ⟨S4x128x128, .f32⟩
  | .local _ .vmem, ⟨15, _⟩ => ⟨S4x128x64, .f32⟩
  | .local _ .vmem, ⟨16, _⟩ => ⟨S2x128x256, .bf16⟩
  | .local _ .vmem, ⟨17, _⟩ => ⟨S2x128x256, .bf16⟩
  | .local _ .vmem, ⟨18, _⟩ => ⟨S2x128x256, .bf16⟩
  | .local _ .vmem, ⟨19, _⟩ => ⟨S2x128x256, .bf16⟩
  | .local _ .vmem, ⟨20, _⟩ => ⟨S2x4x64x64, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69_0 : Ref sig .tc := ⟨.hbm, 88, rfl⟩
abbrev main_v69_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S16x2048x1024 : Shape := ⟨3, ![16, 2048, 1024]⟩
abbrev S16x2048x512 : Shape := ⟨3, ![16, 2048, 512]⟩
abbrev S16x2048x32 : Shape := ⟨3, ![16, 2048, 32]⟩
abbrev S2x4x64 : Shape := ⟨3, ![2, 4, 64]⟩
abbrev S2x256 : Shape := ⟨2, ![2, 256]⟩
abbrev S2x4x128x128 : Shape := ⟨4, ![2, 4, 128, 128]⟩
abbrev S2x4x128 : Shape := ⟨3, ![2, 4, 128]⟩
abbrev S16x2048x256 : Shape := ⟨3, ![16, 2048, 256]⟩
abbrev S16x2048x4x64 : Shape := ⟨4, ![16, 2048, 4, 64]⟩
abbrev S1x4x64 : Shape := ⟨3, ![1, 4, 64]⟩
abbrev S4x64 : Shape := ⟨2, ![4, 64]⟩
abbrev S16x2048x1x32 : Shape := ⟨4, ![16, 2048, 1, 32]⟩
abbrev S16x2048x4x32 : Shape := ⟨4, ![16, 2048, 4, 32]⟩
abbrev S_ : Shape := ⟨0, ![]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S16x16x128x4x64 : Shape := ⟨5, ![16, 16, 128, 4, 64]⟩
abbrev S1x1x128x4x1 : Shape := ⟨5, ![1, 1, 128, 4, 1]⟩
abbrev S16x16x4x64x64 : Shape := ⟨5, ![16, 16, 4, 64, 64]⟩
abbrev S16x4x64x64 : Shape := ⟨4, ![16, 4, 64, 64]⟩
abbrev S1x4x1x1 : Shape := ⟨4, ![1, 4, 1, 1]⟩
abbrev S16x1x4x64x64 : Shape := ⟨5, ![16, 1, 4, 64, 64]⟩
abbrev S16x16x4x128x128 : Shape := ⟨5, ![16, 16, 4, 128, 128]⟩
abbrev S1x1x4x128x128 : Shape := ⟨5, ![1, 1, 4, 128, 128]⟩
abbrev S16x16x4x64x128 : Shape := ⟨5, ![16, 16, 4, 64, 128]⟩
abbrev S16x2048x4 : Shape := ⟨3, ![16, 2048, 4]⟩
abbrev S16x2048x4x1 : Shape := ⟨4, ![16, 2048, 4, 1]⟩
abbrev S1x1x4x64 : Shape := ⟨4, ![1, 1, 4, 64]⟩
abbrev S1x256 : Shape := ⟨2, ![1, 256]⟩
abbrev S256 : Shape := ⟨1, ![256]⟩
abbrev S1x4x128x128 : Shape := ⟨4, ![1, 4, 128, 128]⟩
abbrev S1x4x128 : Shape := ⟨3, ![1, 4, 128]⟩
abbrev S4x128 : Shape := ⟨2, ![4, 128]⟩
abbrev S16x2048 : Shape := ⟨2, ![16, 2048]⟩
abbrev S16x2048x1 : Shape := ⟨3, ![16, 2048, 1]⟩
abbrev S1x1x256 : Shape := ⟨3, ![1, 1, 256]⟩
abbrev S4x16x16x64x128 : Shape := ⟨5, ![4, 16, 16, 64, 128]⟩

abbrev nBuf : Space → Nat
  | .hbm => 362
  | .vmem => 0
  | .smem => 0
  | _ => 0

abbrev hbmTy0_0 (i : Nat) : BufTy := match i % 128 with
  | 0 => ⟨S16x2048x1024, .f32⟩
  | 1 => ⟨S16x2048x512, .f32⟩
  | 2 => ⟨S16x2048x32, .f32⟩
  | 3 => ⟨S16x2048x32, .f32⟩
  | 4 => ⟨S2x4x64, .f32⟩
  | 5 => ⟨S2x256, .f32⟩
  | 6 => ⟨S2x4x128x128, .f32⟩
  | 7 => ⟨S2x4x128, .f32⟩
  | 8 => ⟨S16x2048x256, .f32⟩
  | 9 => ⟨S16x2048x256, .f32⟩
  | 10 => ⟨S16x2048x256, .f32⟩
  | 11 => ⟨S16x2048x256, .f32⟩
  | 12 => ⟨S16x2048x256, .f32⟩
  | 13 => ⟨S16x2048x256, .f32⟩
  | 14 => ⟨S16x2048x4x64, .f32⟩
  | 15 => ⟨S16x2048x4x64, .f32⟩
  | 16 => ⟨S16x2048x4x64, .f32⟩
  | 17 => ⟨S1x4x64, .f32⟩
  | 18 => ⟨S4x64, .f32⟩
  | 19 => ⟨S16x2048x1x32, .f32⟩
  | 20 => ⟨S16x2048x1x32, .f32⟩
  | 21 => ⟨S16x2048x4x32, .f32⟩
  | 22 => ⟨S16x2048x4x32, .f32⟩
  | 23 => ⟨S16x2048x4x32, .f32⟩
  | 24 => ⟨S16x2048x4x32, .f32⟩
  | 25 => ⟨S16x2048x4x32, .f32⟩
  | 26 => ⟨S16x2048x4x32, .f32⟩
  | 27 => ⟨S16x2048x4x32, .f32⟩
  | 28 => ⟨S16x2048x4x32, .f32⟩
  | 29 => ⟨S16x2048x4x32, .f32⟩
  | 30 => ⟨S16x2048x4x32, .f32⟩
  | 31 => ⟨S16x2048x4x32, .f32⟩
  | 32 => ⟨S16x2048x4x32, .f32⟩
  | 33 => ⟨S16x2048x4x64, .f32⟩
  | 34 => ⟨S16x2048x1x32, .f32⟩
  | 35 => ⟨S16x2048x1x32, .f32⟩
  | 36 => ⟨S16x2048x4x32, .f32⟩
  | 37 => ⟨S16x2048x4x32, .f32⟩
  | 38 => ⟨S16x2048x4x32, .f32⟩
  | 39 => ⟨S16x2048x4x32, .f32⟩
  | 40 => ⟨S16x2048x4x32, .f32⟩
  | 41 => ⟨S16x2048x4x32, .f32⟩
  | 42 => ⟨S16x2048x4x32, .f32⟩
  | 43 => ⟨S16x2048x4x32, .f32⟩
  | 44 => ⟨S16x2048x4x32, .f32⟩
  | 45 => ⟨S16x2048x4x32, .f32⟩
  | 46 => ⟨S16x2048x4x32, .f32⟩
  | 47 => ⟨S16x2048x4x32, .f32⟩
  | 48 => ⟨S16x2048x4x64, .f32⟩
  | 49 => ⟨S_, .f32⟩
  | 50 => ⟨S16x2048x4x64, .f32⟩
  | 51 => ⟨S16x2048x4x64, .f32⟩
  | 52 => ⟨S4, .f32⟩
  | 53 => ⟨S_, .f32⟩
  | 54 => ⟨S4, .f32⟩
  | 55 => ⟨S4, .f32⟩
  | 56 => ⟨S_, .f32⟩
  | 57 => ⟨S4, .f32⟩
  | 58 => ⟨S4, .f32⟩
  | 59 => ⟨S4, .f32⟩
  | 60 => ⟨S4, .f32⟩
  | 61 => ⟨S128, .f32⟩
  | 62 => ⟨S128x1, .f32⟩
  | 63 => ⟨S1x128, .f32⟩
  | 64 => ⟨S128x128, .f32⟩
  | 65 => ⟨S128x128, .f32⟩
  | 66 => ⟨S128x128, .f32⟩
  | 67 => ⟨S_, .f32⟩
  | 68 => ⟨S128x128, .f32⟩
  | 69 => ⟨S128x128, .i1⟩
  | 70 => ⟨S_, .f32⟩
  | 71 => ⟨S128x128, .f32⟩
  | 72 => ⟨S128x128, .f32⟩
  | 73 => ⟨S1x128x128, .f32⟩
  | 74 => ⟨S4x1x1, .f32⟩
  | 75 => ⟨S4x128x128, .f32⟩
  | 76 => ⟨S4x128x128, .f32⟩
  | 77 => ⟨S4x128x128, .f32⟩
  | 78 => ⟨S4x128x128, .f32⟩
  | 79 => ⟨S_, .f32⟩
  | 80 => ⟨S_, .f32⟩
  | 81 => ⟨S4x128x128, .i1⟩
  | 82 => ⟨S4x128x128, .f32⟩
  | 83 => ⟨S4x128x128, .f32⟩
  | 84 => ⟨S_, .f32⟩
  | 85 => ⟨S128, .f32⟩
  | 86 => ⟨S128, .f32⟩
  | 87 => ⟨S128x1, .f32⟩
  | 88 => ⟨S1x4, .f32⟩
  | 89 => ⟨S128x4, .f32⟩
  | 90 => ⟨S128x4, .f32⟩
  | 91 => ⟨S128x4, .f32⟩
  | 92 => ⟨S128x4, .f32⟩
  | 93 => ⟨S_, .f32⟩
  | 94 => ⟨S128, .f32⟩
  | 95 => ⟨S128, .f32⟩
  | 96 => ⟨S128x1, .f32⟩
  | 97 => ⟨S1x4, .f32⟩
  | 98 => ⟨S128x4, .f32⟩
  | 99 => ⟨S128x4, .f32⟩
  | 100 => ⟨S128x4, .f32⟩
  | 101 => ⟨S128x4, .f32⟩
  | 102 => ⟨S_, .f32⟩
  | 103 => ⟨S4, .f32⟩
  | 104 => ⟨S4, .f32⟩
  | 105 => ⟨S4, .f32⟩
  | 106 => ⟨S16x16x128x4x64, .f32⟩
  | 107 => ⟨S16x16x128x4x64, .f32⟩
  | 108 => ⟨S16x16x128x4x64, .f32⟩
  | 109 => ⟨S1x1x128x4x1, .f32⟩
  | 110 => ⟨S16x16x128x4x64, .f32⟩
  | 111 => ⟨S16x16x128x4x64, .f32⟩
  | 112 => ⟨S16x16x4x64x64, .f32⟩
  | 113 => ⟨S_, .f32⟩
  | 114 => ⟨S16x4x64x64, .f32⟩
  | 115 => ⟨S1x4x1x1, .f32⟩
  | 116 => ⟨S16x4x64x64, .f32⟩
  | 117 => ⟨S16x4x64x64, .f32⟩
  | 118 => ⟨S16x1x4x64x64, .f32⟩
  | 119 => ⟨S16x4x64x64, .f32⟩
  | 120 => ⟨S16x4x64x64, .f32⟩
  | 121 => ⟨S1x4x1x1, .f32⟩
  | 122 => ⟨S16x4x64x64, .f32⟩
  | 123 => ⟨S16x4x64x64, .f32⟩
  | 124 => ⟨S16x1x4x64x64, .f32⟩
  | 125 => ⟨S16x4x64x64, .f32⟩
  | 126 => ⟨S16x4x64x64, .f32⟩
  | 127 => ⟨S1x4x1x1, .f32⟩
  | _ => ⟨S16x2048x1024, .f32⟩

abbrev hbmTy0_1 (i : Nat) : BufTy := match i % 128 with
  | 0 => ⟨S16x4x64x64, .f32⟩
  | 1 => ⟨S16x4x64x64, .f32⟩
  | 2 => ⟨S16x1x4x64x64, .f32⟩
  | 3 => ⟨S16x4x64x64, .f32⟩
  | 4 => ⟨S16x4x64x64, .f32⟩
  | 5 => ⟨S1x4x1x1, .f32⟩
  | 6 => ⟨S16x4x64x64, .f32⟩
  | 7 => ⟨S16x4x64x64, .f32⟩
  | 8 => ⟨S16x1x4x64x64, .f32⟩
  | 9 => ⟨S16x4x64x64, .f32⟩
  | 10 => ⟨S16x4x64x64, .f32⟩
  | 11 => ⟨S1x4x1x1, .f32⟩
  | 12 => ⟨S16x4x64x64, .f32⟩
  | 13 => ⟨S16x4x64x64, .f32⟩
  | 14 => ⟨S16x1x4x64x64, .f32⟩
  | 15 => ⟨S16x4x64x64, .f32⟩
  | 16 => ⟨S16x4x64x64, .f32⟩
  | 17 => ⟨S1x4x1x1, .f32⟩
  | 18 => ⟨S16x4x64x64, .f32⟩
  | 19 => ⟨S16x4x64x64, .f32⟩
  | 20 => ⟨S16x1x4x64x64, .f32⟩
  | 21 => ⟨S16x4x64x64, .f32⟩
  | 22 => ⟨S16x4x64x64, .f32⟩
  | 23 => ⟨S1x4x1x1, .f32⟩
  | 24 => ⟨S16x4x64x64, .f32⟩
  | 25 => ⟨S16x4x64x64, .f32⟩
  | 26 => ⟨S16x1x4x64x64, .f32⟩
  | 27 => ⟨S16x4x64x64, .f32⟩
  | 28 => ⟨S16x4x64x64, .f32⟩
  | 29 => ⟨S1x4x1x1, .f32⟩
  | 30 => ⟨S16x4x64x64, .f32⟩
  | 31 => ⟨S16x4x64x64, .f32⟩
  | 32 => ⟨S16x1x4x64x64, .f32⟩
  | 33 => ⟨S16x4x64x64, .f32⟩
  | 34 => ⟨S16x4x64x64, .f32⟩
  | 35 => ⟨S1x4x1x1, .f32⟩
  | 36 => ⟨S16x4x64x64, .f32⟩
  | 37 => ⟨S16x4x64x64, .f32⟩
  | 38 => ⟨S16x1x4x64x64, .f32⟩
  | 39 => ⟨S16x4x64x64, .f32⟩
  | 40 => ⟨S16x4x64x64, .f32⟩
  | 41 => ⟨S1x4x1x1, .f32⟩
  | 42 => ⟨S16x4x64x64, .f32⟩
  | 43 => ⟨S16x4x64x64, .f32⟩
  | 44 => ⟨S16x1x4x64x64, .f32⟩
  | 45 => ⟨S16x4x64x64, .f32⟩
  | 46 => ⟨S16x4x64x64, .f32⟩
  | 47 => ⟨S1x4x1x1, .f32⟩
  | 48 => ⟨S16x4x64x64, .f32⟩
  | 49 => ⟨S16x4x64x64, .f32⟩
  | 50 => ⟨S16x1x4x64x64, .f32⟩
  | 51 => ⟨S16x4x64x64, .f32⟩
  | 52 => ⟨S16x4x64x64, .f32⟩
  | 53 => ⟨S1x4x1x1, .f32⟩
  | 54 => ⟨S16x4x64x64, .f32⟩
  | 55 => ⟨S16x4x64x64, .f32⟩
  | 56 => ⟨S16x1x4x64x64, .f32⟩
  | 57 => ⟨S16x4x64x64, .f32⟩
  | 58 => ⟨S16x4x64x64, .f32⟩
  | 59 => ⟨S1x4x1x1, .f32⟩
  | 60 => ⟨S16x4x64x64, .f32⟩
  | 61 => ⟨S16x4x64x64, .f32⟩
  | 62 => ⟨S16x1x4x64x64, .f32⟩
  | 63 => ⟨S16x4x64x64, .f32⟩
  | 64 => ⟨S16x4x64x64, .f32⟩
  | 65 => ⟨S1x4x1x1, .f32⟩
  | 66 => ⟨S16x4x64x64, .f32⟩
  | 67 => ⟨S16x4x64x64, .f32⟩
  | 68 => ⟨S16x1x4x64x64, .f32⟩
  | 69 => ⟨S16x4x64x64, .f32⟩
  | 70 => ⟨S16x4x64x64, .f32⟩
  | 71 => ⟨S1x4x1x1, .f32⟩
  | 72 => ⟨S16x4x64x64, .f32⟩
  | 73 => ⟨S16x4x64x64, .f32⟩
  | 74 => ⟨S16x1x4x64x64, .f32⟩
  | 75 => ⟨S16x4x64x64, .f32⟩
  | 76 => ⟨S16x4x64x64, .f32⟩
  | 77 => ⟨S1x4x1x1, .f32⟩
  | 78 => ⟨S16x4x64x64, .f32⟩
  | 79 => ⟨S16x4x64x64, .f32⟩
  | 80 => ⟨S16x1x4x64x64, .f32⟩
  | 81 => ⟨S16x4x64x64, .f32⟩
  | 82 => ⟨S16x4x64x64, .f32⟩
  | 83 => ⟨S16x1x4x64x64, .f32⟩
  | 84 => ⟨S16x1x4x64x64, .f32⟩
  | 85 => ⟨S16x1x4x64x64, .f32⟩
  | 86 => ⟨S16x1x4x64x64, .f32⟩
  | 87 => ⟨S16x1x4x64x64, .f32⟩
  | 88 => ⟨S16x1x4x64x64, .f32⟩
  | 89 => ⟨S16x1x4x64x64, .f32⟩
  | 90 => ⟨S16x1x4x64x64, .f32⟩
  | 91 => ⟨S16x1x4x64x64, .f32⟩
  | 92 => ⟨S16x1x4x64x64, .f32⟩
  | 93 => ⟨S16x1x4x64x64, .f32⟩
  | 94 => ⟨S16x1x4x64x64, .f32⟩
  | 95 => ⟨S16x1x4x64x64, .f32⟩
  | 96 => ⟨S16x1x4x64x64, .f32⟩
  | 97 => ⟨S16x1x4x64x64, .f32⟩
  | 98 => ⟨S16x1x4x64x64, .f32⟩
  | 99 => ⟨S16x16x4x64x64, .f32⟩
  | 100 => ⟨S16x16x4x128x128, .f32⟩
  | 101 => ⟨S1x1x4x128x128, .f32⟩
  | 102 => ⟨S16x16x4x128x128, .f32⟩
  | 103 => ⟨S16x16x4x128x128, .f32⟩
  | 104 => ⟨S16x16x4x64x128, .f32⟩
  | 105 => ⟨S16x16x128x4x64, .f32⟩
  | 106 => ⟨S16x16x4x64x128, .f32⟩
  | 107 => ⟨S16x16x128x4x64, .f32⟩
  | 108 => ⟨S1x1x128x4x1, .f32⟩
  | 109 => ⟨S16x16x128x4x64, .f32⟩
  | 110 => ⟨S16x16x128x4x64, .f32⟩
  | 111 => ⟨S16x16x128x4x64, .f32⟩
  | 112 => ⟨S16x2048x4x64, .f32⟩
  | 113 => ⟨S16x2048x4x64, .f32⟩
  | 114 => ⟨S_, .f32⟩
  | 115 => ⟨S16x2048x4, .f32⟩
  | 116 => ⟨S16x2048x4x1, .f32⟩
  | 117 => ⟨S_, .f32⟩
  | 118 => ⟨S16x2048x4x1, .f32⟩
  | 119 => ⟨S16x2048x4x1, .f32⟩
  | 120 => ⟨S_, .f32⟩
  | 121 => ⟨S16x2048x4x1, .f32⟩
  | 122 => ⟨S16x2048x4x1, .f32⟩
  | 123 => ⟨S16x2048x4x1, .f32⟩
  | 124 => ⟨S16x2048x4x64, .f32⟩
  | 125 => ⟨S16x2048x4x64, .f32⟩
  | 126 => ⟨S1x1x4x64, .f32⟩
  | 127 => ⟨S16x2048x4x64, .f32⟩
  | _ => ⟨S16x2048x1024, .f32⟩

abbrev hbmTy0_2 (i : Nat) : BufTy := match i % 128 with
  | 0 => ⟨S16x2048x4x64, .f32⟩
  | 1 => ⟨S16x2048x256, .f32⟩
  | 2 => ⟨S16x2048x256, .f32⟩
  | 3 => ⟨S16x2048x256, .f32⟩
  | 4 => ⟨S_, .f32⟩
  | 5 => ⟨S16x2048x256, .f32⟩
  | 6 => ⟨S16x2048x256, .f32⟩
  | 7 => ⟨S_, .f32⟩
  | 8 => ⟨S16x2048x256, .f32⟩
  | 9 => ⟨S16x2048x256, .f32⟩
  | 10 => ⟨S16x2048x256, .f32⟩
  | 11 => ⟨S16x2048x256, .f32⟩
  | 12 => ⟨S1x256, .f32⟩
  | 13 => ⟨S256, .f32⟩
  | 14 => ⟨S1x4x128x128, .f32⟩
  | 15 => ⟨S4x128x128, .f32⟩
  | 16 => ⟨S1x4x128, .f32⟩
  | 17 => ⟨S4x128, .f32⟩
  | 18 => ⟨S16x2048x256, .f32⟩
  | 19 => ⟨S16x2048x256, .f32⟩
  | 20 => ⟨S_, .f32⟩
  | 21 => ⟨S16x2048x256, .f32⟩
  | 22 => ⟨S16x2048x256, .f32⟩
  | 23 => ⟨S16x2048x256, .f32⟩
  | 24 => ⟨S_, .f32⟩
  | 25 => ⟨S16x2048x256, .f32⟩
  | 26 => ⟨S16x2048x256, .f32⟩
  | 27 => ⟨S16x2048x256, .f32⟩
  | 28 => ⟨S_, .f32⟩
  | 29 => ⟨S16x2048x256, .f32⟩
  | 30 => ⟨S16x2048x256, .f32⟩
  | 31 => ⟨S_, .f32⟩
  | 32 => ⟨S16x2048x256, .f32⟩
  | 33 => ⟨S16x2048x256, .f32⟩
  | 34 => ⟨S16x2048x256, .f32⟩
  | 35 => ⟨S16x2048x256, .f32⟩
  | 36 => ⟨S16x2048x256, .f32⟩
  | 37 => ⟨S_, .f32⟩
  | 38 => ⟨S16x2048x256, .f32⟩
  | 39 => ⟨S16x2048x256, .f32⟩
  | 40 => ⟨S16x2048x256, .f32⟩
  | 41 => ⟨S_, .f32⟩
  | 42 => ⟨S16x2048x256, .f32⟩
  | 43 => ⟨S16x2048x256, .f32⟩
  | 44 => ⟨S16x2048x256, .f32⟩
  | 45 => ⟨S_, .f32⟩
  | 46 => ⟨S16x2048x256, .f32⟩
  | 47 => ⟨S16x2048x256, .f32⟩
  | 48 => ⟨S_, .f32⟩
  | 49 => ⟨S16x2048x256, .f32⟩
  | 50 => ⟨S16x2048x256, .f32⟩
  | 51 => ⟨S16x2048x256, .f32⟩
  | 52 => ⟨S_, .f32⟩
  | 53 => ⟨S16x2048, .f32⟩
  | 54 => ⟨S16x2048x1, .f32⟩
  | 55 => ⟨S_, .f32⟩
  | 56 => ⟨S16x2048x1, .f32⟩
  | 57 => ⟨S16x2048x1, .f32⟩
  | 58 => ⟨S16x2048x256, .f32⟩
  | 59 => ⟨S16x2048x256, .f32⟩
  | 60 => ⟨S16x2048x256, .f32⟩
  | 61 => ⟨S_, .f32⟩
  | 62 => ⟨S16x2048, .f32⟩
  | 63 => ⟨S16x2048x1, .f32⟩
  | 64 => ⟨S_, .f32⟩
  | 65 => ⟨S16x2048x1, .f32⟩
  | 66 => ⟨S16x2048x1, .f32⟩
  | 67 => ⟨S16x2048x256, .f32⟩
  | 68 => ⟨S16x2048x256, .f32⟩
  | 69 => ⟨S_, .f32⟩
  | 70 => ⟨S16x2048x1, .f32⟩
  | 71 => ⟨S16x2048x1, .f32⟩
  | 72 => ⟨S16x2048x1, .f32⟩
  | 73 => ⟨S16x2048x256, .f32⟩
  | 74 => ⟨S16x2048x256, .f32⟩
  | 75 => ⟨S1x1x256, .f32⟩
  | 76 => ⟨S16x2048x256, .f32⟩
  | 77 => ⟨S16x2048x256, .f32⟩
  | 78 => ⟨S16x16x128x4x64, .f32⟩
  | 79 => ⟨S_, .i1⟩
  | 80 => ⟨S128x128, .i1⟩
  | 81 => ⟨S128x128, .i32⟩
  | 82 => ⟨S_, .i32⟩
  | 83 => ⟨S128x128, .i32⟩
  | 84 => ⟨S128x128, .i32⟩
  | 85 => ⟨S128x128, .i32⟩
  | 86 => ⟨S128x128, .i1⟩
  | 87 => ⟨S_, .i1⟩
  | 88 => ⟨S128x128, .i1⟩
  | 89 => ⟨S128x128, .i1⟩
  | 90 => ⟨S1x128x128, .i1⟩
  | 91 => ⟨S_, .f32⟩
  | 92 => ⟨S_, .f32⟩
  | 93 => ⟨S4x128x128, .i1⟩
  | 94 => ⟨S4x128x128, .f32⟩
  | 95 => ⟨S4x128x128, .f32⟩
  | 96 => ⟨S4x16x16x64x128, .f32⟩
  | 97 => ⟨S16x16x128x4x64, .f32⟩
  | 98 => ⟨S128x4, .f32⟩
  | 99 => ⟨S1x1x128x4x1, .f32⟩
  | 100 => ⟨S16x16x128x4x64, .f32⟩
  | 101 => ⟨S16x16x128x4x64, .f32⟩
  | 102 => ⟨S16x2048x256, .f32⟩
  | 103 => ⟨S16x2048x256, .f32⟩
  | 104 => ⟨S16x2048x256, .bf16⟩
  | 105 => ⟨S16x2048x256, .bf16⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_0 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_2 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_4 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v66 : Ref sig .tc := ⟨.hbm, 83, rfl⟩
abbrev main_cst_5 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_6 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_7 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_8 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_cst_9 : Ref sig .tc := ⟨.hbm, 242, rfl⟩
abbrev main_v221 : Ref sig .tc := ⟨.hbm, 243, rfl⟩
abbrev main_v222 : Ref sig .tc := ⟨.hbm, 244, rfl⟩
abbrev main_cst_10 : Ref sig .tc := ⟨.hbm, 245, rfl⟩
abbrev main_v223 : Ref sig .tc := ⟨.hbm, 246, rfl⟩
abbrev main_v224 : Ref sig .tc := ⟨.hbm, 247, rfl⟩
abbrev main_cst_11 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_call1_v0 : Ref sig .tc := ⟨.hbm, 258, rfl⟩
abbrev main_call1_v1 : Ref sig .tc := ⟨.hbm, 259, rfl⟩
abbrev main_call1_cst : Ref sig .tc := ⟨.hbm, 260, rfl⟩
abbrev main_call1_v2 : Ref sig .tc := ⟨.hbm, 261, rfl⟩
abbrev main_call1_v3 : Ref sig .tc := ⟨.hbm, 262, rfl⟩
abbrev main_call1_cst_0 : Ref sig .tc := ⟨.hbm, 263, rfl⟩
abbrev main_call1_v4 : Ref sig .tc := ⟨.hbm, 264, rfl⟩
abbrev main_call1_v5 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_cst_12 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_cst_13 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_cst_14 : Ref sig .tc := ⟨.hbm, 284, rfl⟩
abbrev main_v250 : Ref sig .tc := ⟨.hbm, 285, rfl⟩
abbrev main_v251 : Ref sig .tc := ⟨.hbm, 286, rfl⟩
abbrev main_cst_15 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_cst_16 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_cst_17 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_cst_18 : Ref sig .tc := ⟨.hbm, 301, rfl⟩
abbrev main_v263 : Ref sig .tc := ⟨.hbm, 302, rfl⟩
abbrev main_v264 : Ref sig .tc := ⟨.hbm, 303, rfl⟩
abbrev main_cst_19 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_cst_20 : Ref sig .tc := ⟨.hbm, 308, rfl⟩
abbrev main_v268 : Ref sig .tc := ⟨.hbm, 309, rfl⟩
abbrev main_v269 : Ref sig .tc := ⟨.hbm, 310, rfl⟩
abbrev main_cst_21 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_cst_22 : Ref sig .tc := ⟨.hbm, 317, rfl⟩
abbrev main_v275 : Ref sig .tc := ⟨.hbm, 318, rfl⟩
abbrev main_v276 : Ref sig .tc := ⟨.hbm, 319, rfl⟩
abbrev main_cst_23 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_cst_24 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_c : Ref sig .tc := ⟨.hbm, 335, rfl⟩
abbrev main_v290 : Ref sig .tc := ⟨.hbm, 336, rfl⟩
abbrev main_call2_v0 : Ref sig .tc := ⟨.hbm, 337, rfl⟩
abbrev main_call2_c : Ref sig .tc := ⟨.hbm, 338, rfl⟩
abbrev main_call2_v1 : Ref sig .tc := ⟨.hbm, 339, rfl⟩
abbrev main_call2_v2 : Ref sig .tc := ⟨.hbm, 340, rfl⟩
abbrev main_call2_v3 : Ref sig .tc := ⟨.hbm, 341, rfl⟩
abbrev main_call2_v4 : Ref sig .tc := ⟨.hbm, 342, rfl⟩
abbrev main_call2_c_0 : Ref sig .tc := ⟨.hbm, 343, rfl⟩
abbrev main_call2_v5 : Ref sig .tc := ⟨.hbm, 344, rfl⟩
abbrev main_v291 : Ref sig .tc := ⟨.hbm, 345, rfl⟩
abbrev main_v292 : Ref sig .tc := ⟨.hbm, 346, rfl⟩
abbrev main_cst_25 : Ref sig .tc := ⟨.hbm, 347, rfl⟩
abbrev main_call3_v0 : Ref sig .tc := ⟨.hbm, 348, rfl⟩
abbrev main_call3_v1 : Ref sig .tc := ⟨.hbm, 349, rfl⟩
abbrev main_call3_v2 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_v303 : Ref sig .tc := ⟨.hbm, 361, rfl⟩

abbrev nD : Nat := 1
abbrev τ : Topo := Topo.v7x

variable {F : FTy → Type} [FloatOps F]
-- ==== Kernel2.lean ====
abbrev S4 : Shape := ⟨1, ![4]⟩
abbrev S36864x1152 : Shape := ⟨2, ![36864, 1152]⟩
abbrev S2x16x1024x512 : Shape := ⟨4, ![2, 16, 1024, 512]⟩
abbrev S2x16x512x1024 : Shape := ⟨4, ![2, 16, 512, 1024]⟩
abbrev S4x1 : Shape := ⟨2, ![4, 1]⟩
abbrev S1x4 : Shape := ⟨2, ![1, 4]⟩
abbrev S4x4 : Shape := ⟨2, ![4, 4]⟩
abbrev S_ : Shape := ⟨0, ![]⟩
abbrev S36 : Shape := ⟨1, ![36]⟩
abbrev S36x1 : Shape := ⟨2, ![36, 1]⟩
abbrev S36x4 : Shape := ⟨2, ![36, 4]⟩
abbrev S1 : Shape := ⟨1, ![1]⟩
abbrev S36864x1024 : Shape := ⟨2, ![36864, 1024]⟩
abbrev S1024x1152 : Shape := ⟨2, ![1024, 1152]⟩
abbrev S1x1x1024x512 : Shape := ⟨4, ![1, 1, 1024, 512]⟩
abbrev S1x1x512x1024 : Shape := ⟨4, ![1, 1, 512, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 51
  | .vmem => 11
  | .smem => 2
  | _ => 0

abbrev bufTy : (tb : Table) → Fin (tcTables nBuf tb) → BufTy
  | .hbm, ⟨0, _⟩ => ⟨S4, .i32⟩
  | .hbm, ⟨1, _⟩ => ⟨S36864x1152, .f32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S4, .i32⟩
  | .hbm, ⟨6, _⟩ => ⟨S4x1, .i32⟩
  | .hbm, ⟨7, _⟩ => ⟨S4, .i32⟩
  | .hbm, ⟨8, _⟩ => ⟨S1x4, .i32⟩
  | .hbm, ⟨9, _⟩ => ⟨S4x4, .i32⟩
  | .hbm, ⟨10, _⟩ => ⟨S4x4, .i32⟩
  | .hbm, ⟨11, _⟩ => ⟨S4x4, .i1⟩
  | .hbm, ⟨12, _⟩ => ⟨S1x4, .i32⟩
  | .hbm, ⟨13, _⟩ => ⟨S_, .i32⟩
  | .hbm, ⟨14, _⟩ => ⟨S_, .i32⟩
  | .hbm, ⟨15, _⟩ => ⟨S4x4, .i32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4, .i32⟩
  | .hbm, ⟨20, _⟩ => ⟨S36, .i32⟩
  | .hbm, ⟨21, _⟩ => ⟨S_, .i32⟩
  | .hbm, ⟨22, _⟩ => ⟨S36, .i32⟩
  | .hbm, ⟨23, _⟩ => ⟨S36, .i32⟩
  | .hbm, ⟨24, _⟩ => ⟨S4, .i32⟩
  | .hbm, ⟨25, _⟩ => ⟨S1x4, .i32⟩
  | .hbm, ⟨26, _⟩ => ⟨S36x1, .i32⟩
  | .hbm, ⟨27, _⟩ => ⟨S36x4, .i32⟩
  | .hbm, ⟨28, _⟩ => ⟨S36x4, .i32⟩
  | .hbm, ⟨29, _⟩ => ⟨S36x4, .i1⟩
  | .hbm, ⟨30, _⟩ => ⟨S36x4, .i32⟩
  | .hbm, ⟨31, _⟩ => ⟨S_, .i32⟩
  | .hbm, ⟨32, _⟩ => ⟨S36, .i32⟩
  | .hbm, ⟨33, _⟩ => ⟨S_, .i32⟩
  | .hbm, ⟨34, _⟩ => ⟨S36, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S36864x1024, .f32⟩
  | .local _ .vmem, ⟨0, _⟩ => ⟨S1024x1152, .f32⟩
  | .local _ .vmem, ⟨1, _⟩ => ⟨S1024x1152, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S36, .i32⟩
  | .local _ .smem, ⟨1, _⟩ => ⟨S1, .i32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_c_4 : Ref sig .tc := ⟨.hbm, 35, rfl⟩
abbrev main_v23 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c : Ref sig .tc := ⟨.hbm, 44, rfl⟩
abbrev main_call1_v6 : Ref sig .tc := ⟨.hbm, 45, rfl⟩
abbrev main_call1_v7 : Ref sig .tc := ⟨.hbm, 46, rfl⟩
abbrev main_call1_c_0 : Ref sig .tc := ⟨.hbm, 47, rfl⟩
abbrev main_call1_v8 : Ref sig .tc := ⟨.hbm, 48, rfl⟩
abbrev main_v24 : Ref sig .tc := ⟨.hbm, 49, rfl⟩
abbrev main_v26 : Ref sig .tc := ⟨.hbm, 50, rfl⟩
abbrev main_v22 : Ref sig .tc := ⟨.smem, 0, rfl⟩
abbrev main_v25 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![36, 4], ![false, false]⟩

abbrev pre0 : Pipeline.Prefetch sig := ⟨2, ![main_v22.idx, main_v25.idx], fun | 0 => main_v22.names | 1 => main_v25.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c3_i32 : BitVec 32 := 3#32
  let v7 : BitVec 1 := Scalar.cmpi .eq arg1 c3_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S36.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c4_i32 : BitVec 32 := 4#32
  let v2 : BitVec 32 := Scalar.muli v1 c4_i32
  let c0 : Index := 0#32
  let v3 : BitVec 32 := pf.at 1 (Rect.unit (s := S1) ![0] S1.size inb_S1_S1_0) numel1_S1
  let v4 : BitVec 1 := Scalar.cmpi .slt arg0 v3
  let c3_i32 : BitVec 32 := 3#32
  let v5 : BitVec 32 := Scalar.select v4 arg1 c3_i32
  let v6 : BitVec 32 := Scalar.addi v2 v5
  let c0_i32 : BitVec 32 := 0#32
  let c0_i32_0 : BitVec 32 := 0#32
  let c0_i32_1 : BitVec 32 := 0#32
  let c0_i32_2 : BitVec 32 := 0#32
  ![c0_i32.toNat, v6.toNat, c0_i32_0.toNat, c0_i32_1.toNat]

def cc0_transform_2 (k0_off1_inb : ∀ i : grid0.Coords, ∀ a, (k0_off1 i) a + S1.size a ≤ S36.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c4_i32 : BitVec 32 := 4#32
  let v2 : BitVec 32 := Scalar.muli v1 c4_i32
  let c0 : Index := 0#32
  let v3 : BitVec 32 := pf.at 1 (Rect.unit (s := S1) ![0] S1.size inb_S1_S1_0) numel1_S1
  let v4 : BitVec 1 := Scalar.cmpi .slt arg0 v3
  let c3_i32 : BitVec 32 := 3#32
  let v5 : BitVec 32 := Scalar.select v4 arg1 c3_i32
  let v6 : BitVec 32 := Scalar.addi v2 v5
  let c0_i32 : BitVec 32 := 0#32
  let c0_i32_0 : BitVec 32 := 0#32
  let c0_i32_1 : BitVec 32 := 0#32
  let c0_i32_2 : BitVec 32 := 0#32
  ![c0_i32.toNat, v6.toNat, c0_i32_0.toNat, c0_i32_1.toNat]

def cc0_transform_3 (k0_off1_inb : ∀ i : grid0.Coords, ∀ a, (k0_off1 i) a + S1.size a ≤ S36.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c4_i32 : BitVec 32 := 4#32
  let v2 : BitVec 32 := Scalar.muli v1 c4_i32
  let c0 : Index := 0#32
  let v3 : BitVec 32 := pf.at 1 (Rect.unit (s := S1) ![0] S1.size inb_S1_S1_0) numel1_S1
  let v4 : BitVec 1 := Scalar.cmpi .slt arg0 v3
  let c3_i32 : BitVec 32 := 3#32
  let v5 : BitVec 32 := Scalar.select v4 arg1 c3_i32
  let v6 : BitVec 32 := Scalar.addi v2 v5
  let c0_i32 : BitVec 32 := 0#32
  let c0_i32_0 : BitVec 32 := 0#32
  let c0_i32_1 : BitVec 32 := 0#32
  let c0_i32_2 : BitVec 32 := 0#32
  ![c0_i32.toNat, v6.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S4 : Shape := ⟨1, ![4]⟩
abbrev S36864x1152 : Shape := ⟨2, ![36864, 1152]⟩
abbrev S2x16x1024x512 : Shape := ⟨4, ![2, 16, 1024, 512]⟩
abbrev S2x16x512x1024 : Shape := ⟨4, ![2, 16, 512, 1024]⟩
abbrev S1x4 : Shape := ⟨2, ![1, 4]⟩
abbrev S4x1 : Shape := ⟨2, ![4, 1]⟩
abbrev S4x4 : Shape := ⟨2, ![4, 4]⟩
abbrev S_ : Shape := ⟨0, ![]⟩
abbrev S36 : Shape := ⟨1, ![36]⟩
abbrev S36x1 : Shape := ⟨2, ![36, 1]⟩
abbrev S36x4 : Shape := ⟨2, ![36, 4]⟩
abbrev S36x1024 : Shape := ⟨2, ![36, 1024]⟩
abbrev S36864 : Shape := ⟨1, ![36864]⟩
abbrev S36864x1024 : Shape := ⟨2, ![36864, 1024]⟩
abbrev S36864x1 : Shape := ⟨2, ![36864, 1]⟩
abbrev S36864x4 : Shape := ⟨2, ![36864, 4]⟩
abbrev S36864x4x1 : Shape := ⟨3, ![36864, 4, 1]⟩
abbrev S36864x1x4 : Shape := ⟨3, ![36864, 1, 4]⟩
abbrev S36864x4x4 : Shape := ⟨3, ![36864, 4, 4]⟩
abbrev S36864x16 : Shape := ⟨2, ![36864, 16]⟩
abbrev S1x16x1024x512 : Shape := ⟨4, ![1, 16, 1024, 512]⟩
abbrev S16x1024x512 : Shape := ⟨3, ![16, 1024, 512]⟩
abbrev S36864x16x512 : Shape := ⟨3, ![36864, 16, 512]⟩
abbrev S36864x16x1 : Shape := ⟨3, ![36864, 16, 1]⟩
abbrev S1x16x512x1024 : Shape := ⟨4, ![1, 16, 512, 1024]⟩
abbrev S16x512x1024 : Shape := ⟨3, ![16, 512, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4, .i32⟩
  | .hbm, ⟨1, _⟩ => ⟨S36864x1152, .f32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S4, .i32⟩
  | .hbm, ⟨6, _⟩ => ⟨S1x4, .i32⟩
  | .hbm, ⟨7, _⟩ => ⟨S4x1, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S1x4, .i32⟩
  | .hbm, ⟨12, _⟩ => ⟨S_, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4, .i32⟩
  | .hbm, ⟨19, _⟩ => ⟨S36, .i32⟩
  | .hbm, ⟨20, _⟩ => ⟨S_, .i32⟩
  | .hbm, ⟨21, _⟩ => ⟨S36, .i32⟩
  | .hbm, ⟨22, _⟩ => ⟨S36, .i32⟩
  | .hbm, ⟨23, _⟩ => ⟨S1x4, .i32⟩
  | .hbm, ⟨24, _⟩ => ⟨S36x1, .i32⟩
  | .hbm, ⟨25, _⟩ => ⟨S36x4, .i32⟩
  | .hbm, ⟨26, _⟩ => ⟨S36x4, .i32⟩
  | .hbm, ⟨27, _⟩ => ⟨S36x4, .i1⟩
  | .hbm, ⟨28, _⟩ => ⟨S36x4, .i32⟩
  | .hbm, ⟨29, _⟩ => ⟨S_, .i32⟩
  | .hbm, ⟨30, _⟩ => ⟨S36, .i32⟩
  | .hbm, ⟨31, _⟩ => ⟨S_, .i32⟩
  | .hbm, ⟨32, _⟩ => ⟨S36, .i32⟩
  | .hbm, ⟨33, _⟩ => ⟨S36, .i32⟩
  | .hbm, ⟨34, _⟩ => ⟨S36, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S36, .i32⟩
  | .hbm, ⟨51, _⟩ => ⟨S36, .i1⟩
  | .hbm, ⟨52, _⟩ => ⟨S36x1, .i32⟩
  | .hbm, ⟨53, _⟩ => ⟨S36x1024, .i32⟩
  | .hbm, ⟨54, _⟩ => ⟨S36864, .i32⟩
  | .hbm, ⟨55, _⟩ => ⟨S36x1, .i1⟩
  | .hbm, ⟨56, _⟩ => ⟨S36x1024, .i1⟩
  | .hbm, ⟨57, _⟩ => ⟨S36864, .i1⟩
  | .hbm, ⟨58, _⟩ => ⟨S36864x1024, .f32⟩
  | .hbm, ⟨59, _⟩ => ⟨S36864x1, .i32⟩
  | .hbm, ⟨60, _⟩ => ⟨S1x4, .i32⟩
  | .hbm, ⟨61, _⟩ => ⟨S36864x4, .i32⟩
  | .hbm, ⟨62, _⟩ => ⟨S36864x4, .i32⟩
  | .hbm, ⟨63, _⟩ => ⟨S36864x4, .i1⟩
  | .hbm, ⟨64, _⟩ => ⟨S36864x1, .i1⟩
  | .hbm, ⟨65, _⟩ => ⟨S36864x4, .i1⟩
  | .hbm, ⟨66, _⟩ => ⟨S36864x4, .i1⟩
  | .hbm, ⟨67, _⟩ => ⟨S36864x4x1, .i1⟩
  | .hbm, ⟨68, _⟩ => ⟨S36864x4, .f32⟩
  | .hbm, ⟨69, _⟩ => ⟨S36864x1x4, .f32⟩
  | .hbm, ⟨70, _⟩ => ⟨S_, .f32⟩
  | .hbm, ⟨71, _⟩ => ⟨S_, .f32⟩
  | .hbm, ⟨72, _⟩ => ⟨S36864x4x4, .i1⟩
  | .hbm, ⟨73, _⟩ => ⟨S36864x4x4, .f32⟩
  | .hbm, ⟨74, _⟩ => ⟨S36864x4x4, .f32⟩
  | .hbm, ⟨75, _⟩ => ⟨S36864x4x4, .f32⟩
  | .hbm, ⟨76, _⟩ => ⟨S36864x16, .f32⟩
  | .hbm, ⟨77, _⟩ => ⟨S1x16x1024x512, .f32⟩
  | .hbm, ⟨78, _⟩ => ⟨S16x1024x512, .f32⟩
  | .hbm, ⟨79, _⟩ => ⟨S36864x16x512, .f32⟩
  | .hbm, ⟨80, _⟩ => ⟨S36864x16x512, .f32⟩
  | .hbm, ⟨81, _⟩ => ⟨S36864x16x512, .f32⟩
  | .hbm, ⟨82, _⟩ => ⟨S_, .f32⟩
  | .hbm, ⟨83, _⟩ => ⟨S36864x16x512, .f32⟩
  | .hbm, ⟨84, _⟩ => ⟨S36864x16x512, .f32⟩
  | .hbm, ⟨85, _⟩ => ⟨S_, .f32⟩
  | .hbm, ⟨86, _⟩ => ⟨S36864x16x512, .f32⟩
  | .hbm, ⟨87, _⟩ => ⟨S36864x16x512, .f32⟩
  | .hbm, ⟨88, _⟩ => ⟨S36864x16x512, .f32⟩
  | .hbm, ⟨89, _⟩ => ⟨S1x16x1024x512, .f32⟩
  | .hbm, ⟨90, _⟩ => ⟨S16x1024x512, .f32⟩
  | .hbm, ⟨91, _⟩ => ⟨S36864x16x512, .f32⟩
  | .hbm, ⟨92, _⟩ => ⟨S36864x16x512, .f32⟩
  | .hbm, ⟨93, _⟩ => ⟨S36864x16x1, .f32⟩
  | .hbm, ⟨94, _⟩ => ⟨S36864x16x512, .f32⟩
  | .hbm, ⟨95, _⟩ => ⟨S36864x16x512, .f32⟩
  | .hbm, ⟨96, _⟩ => ⟨S1x16x512x1024, .f32⟩
  | .hbm, ⟨97, _⟩ => ⟨S16x512x1024, .f32⟩
  | .hbm, ⟨98, _⟩ => ⟨S36864x1024, .f32⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c : Ref sig .tc := ⟨.hbm, 44, rfl⟩
abbrev main_call1_v6 : Ref sig .tc := ⟨.hbm, 45, rfl⟩
abbrev main_call1_v7 : Ref sig .tc := ⟨.hbm, 46, rfl⟩
abbrev main_call1_c_0 : Ref sig .tc := ⟨.hbm, 47, rfl⟩
abbrev main_call1_v8 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩

abbrev nD : Nat := 1
abbrev τ : Topo := Topo.v7x

variable {F : FTy → Type} [FloatOps F]
-- ==== Kernel3.lean ====
abbrev S16x2048x1024 : Shape := ⟨3, ![16, 2048, 1024]⟩
abbrev S2x16x6x1024 : Shape := ⟨4, ![2, 16, 6, 1024]⟩
abbrev S16x2048x32 : Shape := ⟨3, ![16, 2048, 32]⟩
abbrev S2x1024 : Shape := ⟨2, ![2, 1024]⟩
abbrev S2x1024x2840 : Shape := ⟨3, ![2, 1024, 2840]⟩
abbrev S2x64 : Shape := ⟨2, ![2, 64]⟩
abbrev S2x3x64 : Shape := ⟨3, ![2, 3, 64]⟩
abbrev S1x16x1x2048x1x32 : Shape := ⟨6, ![1, 16, 1, 2048, 1, 32]⟩
abbrev S1x16x1x2048x4x32 : Shape := ⟨6, ![1, 16, 1, 2048, 4, 32]⟩
abbrev S16x2048x128 : Shape := ⟨3, ![16, 2048, 128]⟩
abbrev S32768x128 : Shape := ⟨2, ![32768, 128]⟩
abbrev S32768x1024 : Shape := ⟨2, ![32768, 1024]⟩
abbrev S1x16x6x1024 : Shape := ⟨4, ![1, 16, 6, 1024]⟩
abbrev S16x6x1024 : Shape := ⟨3, ![16, 6, 1024]⟩
abbrev S1x1024x2840 : Shape := ⟨3, ![1, 1024, 2840]⟩
abbrev S1024x2840 : Shape := ⟨2, ![1024, 2840]⟩
abbrev S_ : Shape := ⟨0, ![]⟩
abbrev S1024x2944 : Shape := ⟨2, ![1024, 2944]⟩
abbrev S1x3x64 : Shape := ⟨3, ![1, 3, 64]⟩
abbrev S3x64 : Shape := ⟨2, ![3, 64]⟩
abbrev S1x3x1x64 : Shape := ⟨4, ![1, 3, 1, 64]⟩
abbrev S1x3x2x64 : Shape := ⟨4, ![1, 3, 2, 64]⟩
abbrev S3x128 : Shape := ⟨2, ![3, 128]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S32768x512 : Shape := ⟨2, ![32768, 512]⟩
abbrev S16x128x2048 : Shape := ⟨3, ![16, 128, 2048]⟩
abbrev S512x1024 : Shape := ⟨2, ![512, 1024]⟩
abbrev S1x6x1024 : Shape := ⟨3, ![1, 6, 1024]⟩
abbrev S512x128 : Shape := ⟨2, ![512, 128]⟩
abbrev S512x512 : Shape := ⟨2, ![512, 512]⟩
abbrev S1x128x512 : Shape := ⟨3, ![1, 128, 512]⟩
abbrev S6x1024 : Shape := ⟨2, ![6, 1024]⟩
abbrev S512x1 : Shape := ⟨2, ![512, 1]⟩
abbrev S1024x896 : Shape := ⟨2, ![1024, 896]⟩
abbrev S512x896 : Shape := ⟨2, ![512, 896]⟩
abbrev S1024x1024 : Shape := ⟨2, ![1024, 1024]⟩
abbrev S1024x512 : Shape := ⟨2, ![1024, 512]⟩
abbrev S128x128 : Shape := ⟨2, ![128, 128]⟩
abbrev S1x128 : Shape := ⟨2, ![1, 128]⟩
abbrev S128x512 : Shape := ⟨2, ![128, 512]⟩

abbrev nBuf : Space → Nat
  | .hbm => 49
  | .vmem => 32
  | .smem => 0
  | _ => 0

abbrev bufTy : (tb : Table) → Fin (tcTables nBuf tb) → BufTy
  | .hbm, ⟨0, _⟩ => ⟨S16x2048x1024, .f32⟩
  | .hbm, ⟨1, _⟩ => ⟨S2x16x6x1024, .f32⟩
  | .hbm, ⟨2, _⟩ => ⟨S16x2048x32, .f32⟩
  | .hbm, ⟨3, _⟩ => ⟨S16x2048x32, .f32⟩
  | .hbm, ⟨4, _⟩ => ⟨S2x1024, .f32⟩
  | .hbm, ⟨5, _⟩ => ⟨S2x1024x2840, .f32⟩
  | .hbm, ⟨6, _⟩ => ⟨S2x64, .f32⟩
  | .hbm, ⟨7, _⟩ => ⟨S2x3x64, .f32⟩
  | .hbm, ⟨8, _⟩ => ⟨S1x16x1x2048x1x32, .f32⟩
  | .hbm, ⟨9, _⟩ => ⟨S1x16x1x2048x4x32, .f32⟩
  | .hbm, ⟨10, _⟩ => ⟨S16x2048x128, .f32⟩
  | .hbm, ⟨11, _⟩ => ⟨S32768x128, .f32⟩
  | .hbm, ⟨12, _⟩ => ⟨S1x16x1x2048x1x32, .f32⟩
  | .hbm, ⟨13, _⟩ => ⟨S1x16x1x2048x4x32, .f32⟩
  | .hbm, ⟨14, _⟩ => ⟨S16x2048x128, .f32⟩
  | .hbm, ⟨15, _⟩ => ⟨S32768x128, .f32⟩
  | .hbm, ⟨16, _⟩ => ⟨S32768x1024, .f32⟩
  | .hbm, ⟨17, _⟩ => ⟨S1x16x6x1024, .f32⟩
  | .hbm, ⟨18, _⟩ => ⟨S16x6x1024, .f32⟩
  | .hbm, ⟨19, _⟩ => ⟨S1x1024x2840, .f32⟩
  | .hbm, ⟨20, _⟩ => ⟨S1024x2840, .f32⟩
  | .hbm, ⟨21, _⟩ => ⟨S_, .i32⟩
  | .hbm, ⟨22, _⟩ => ⟨S_, .f32⟩
  | .hbm, ⟨23, _⟩ => ⟨S1024x2944, .f32⟩
  | .hbm, ⟨24, _⟩ => ⟨S1024x2944, .bf16⟩
  | .hbm, ⟨25, _⟩ => ⟨S1x3x64, .f32⟩
  | .hbm, ⟨26, _⟩ => ⟨S3x64, .f32⟩
  | .hbm, ⟨27, _⟩ => ⟨S1x3x1x64, .f32⟩
  | .hbm, ⟨28, _⟩ => ⟨S1x3x2x64, .f32⟩
  | .hbm, ⟨29, _⟩ => ⟨S3x128, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S8x64, .f32⟩
  | .hbm, ⟨37, _⟩ => ⟨S512, .f32⟩
  | .hbm, ⟨38, _⟩ => ⟨S1x512, .f32⟩
  | .hbm, ⟨39, _⟩ => ⟨S32768x1024, .f32⟩
  | .hbm, ⟨40, _⟩ => ⟨S32768x512, .f32⟩
  | .hbm, ⟨41, _⟩ => ⟨S32768x128, .f32⟩
  | .hbm, ⟨42, _⟩ => ⟨S32768x128, .f32⟩
  | .hbm, ⟨43, _⟩ => ⟨S32768x128, .f32⟩
  | .hbm, ⟨44, _⟩ => ⟨S32768x512, .bf16⟩
  | .hbm, ⟨45, _⟩ => ⟨S16x128x2048, .bf16⟩
  | .hbm, ⟨46, _⟩ => ⟨S32768x128, .bf16⟩
  | .hbm, ⟨47, _⟩ => ⟨S16x128x2048, .bf16⟩
  | .hbm, ⟨48, _⟩ => ⟨S32768x128, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2944, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S3x128, .f32⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x512, .bf16⟩
  | .local _ .vmem, ⟨23, _⟩ => ⟨S512x512, .bf16⟩
  | .local _ .vmem, ⟨24, _⟩ => ⟨S1x128x512, .bf16⟩
  | .local _ .vmem, ⟨25, _⟩ => ⟨S1x128x512, .bf16⟩
  | .local _ .vmem, ⟨26, _⟩ => ⟨S512x128, .bf16⟩
  | .local _ .vmem, ⟨27, _⟩ => ⟨S512x128, .bf16⟩
  | .local _ .vmem, ⟨28, _⟩ => ⟨S1x128x512, .bf16⟩
  | .local _ .vmem, ⟨29, _⟩ => ⟨S1x128x512, .bf16⟩
  | .local _ .vmem, ⟨30, _⟩ => ⟨S512x128, .bf16⟩
  | .local _ .vmem, ⟨31, _⟩ => ⟨S512x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev main_v29_5 : Ref sig .tc := ⟨.hbm, 44, rfl⟩
abbrev main_v29_6 : Ref sig .tc := ⟨.hbm, 45, rfl⟩
abbrev main_v29_7 : Ref sig .tc := ⟨.hbm, 46, rfl⟩
abbrev main_v29_8 : Ref sig .tc := ⟨.hbm, 47, rfl⟩
abbrev main_v29_9 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16x2048x1024 : Shape := ⟨3, ![16, 2048, 1024]⟩
abbrev S2x16x6x1024 : Shape := ⟨4, ![2, 16, 6, 1024]⟩
abbrev S16x2048x32 : Shape := ⟨3, ![16, 2048, 32]⟩
abbrev S2x1024 : Shape := ⟨2, ![2, 1024]⟩
abbrev S2x1024x2840 : Shape := ⟨3, ![2, 1024, 2840]⟩
abbrev S2x64 : Shape := ⟨2, ![2, 64]⟩
abbrev S2x3x64 : Shape := ⟨3, ![2, 3, 64]⟩
abbrev S1x16x1x1024 : Shape := ⟨4, ![1, 16, 1, 1024]⟩
abbrev S16x1024 : Shape := ⟨2, ![16, 1024]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024x2840 : Shape := ⟨3, ![1, 1024, 2840]⟩
abbrev S1024x2840 : Shape := ⟨2, ![1024, 2840]⟩
abbrev S16x2048x2840 : Shape := ⟨3, ![16, 2048, 2840]⟩
abbrev S16x2048x256 : Shape := ⟨3, ![16, 2048, 256]⟩
abbrev S16x2048x512 : Shape := ⟨3, ![16, 2048, 512]⟩
abbrev S16x2048x128 : Shape := ⟨3, ![16, 2048, 128]⟩
abbrev S16x2048x24 : Shape := ⟨3, ![16, 2048, 24]⟩
abbrev S32768x1024 : Shape := ⟨2, ![32768, 1024]⟩
abbrev S32768x512 : Shape := ⟨2, ![32768, 512]⟩
abbrev S32768x128 : Shape := ⟨2, ![32768, 128]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x16x6x1024, .f32⟩
  | .hbm, ⟨2, _⟩ => ⟨S16x2048x32, .f32⟩
  | .hbm, ⟨3, _⟩ => ⟨S16x2048x32, .f32⟩
  | .hbm, ⟨4, _⟩ => ⟨S2x1024, .f32⟩
  | .hbm, ⟨5, _⟩ => ⟨S2x1024x2840, .f32⟩
  | .hbm, ⟨6, _⟩ => ⟨S2x64, .f32⟩
  | .hbm, ⟨7, _⟩ => ⟨S2x3x64, .f32⟩
  | .hbm, ⟨8, _⟩ => ⟨S1x16x1x1024, .f32⟩
  | .hbm, ⟨9, _⟩ => ⟨S16x1024, .f32⟩
  | .hbm, ⟨10, _⟩ => ⟨S16x1x1024, .f32⟩
  | .hbm, ⟨11, _⟩ => ⟨S1x16x1x1024, .f32⟩
  | .hbm, ⟨12, _⟩ => ⟨S16x1024, .f32⟩
  | .hbm, ⟨13, _⟩ => ⟨S16x1x1024, .f32⟩
  | .hbm, ⟨14, _⟩ => ⟨S1x1024, .f32⟩
  | .hbm, ⟨15, _⟩ => ⟨S1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x1x1024, .f32⟩
  | .hbm, ⟨34, _⟩ => ⟨S16x1x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S1x1024x2840, .f32⟩
  | .hbm, ⟨40, _⟩ => ⟨S1024x2840, .f32⟩
  | .hbm, ⟨41, _⟩ => ⟨S16x2048x2840, .f32⟩
  | .hbm, ⟨42, _⟩ => ⟨S16x2048x256, .f32⟩
  | .hbm, ⟨43, _⟩ => ⟨S16x2048x256, .f32⟩
  | .hbm, ⟨44, _⟩ => ⟨S16x2048x256, .f32⟩
  | .hbm, ⟨45, _⟩ => ⟨S16x2048x256, .f32⟩
  | .hbm, ⟨46, _⟩ => ⟨S16x2048x256, .f32⟩
  | .hbm, ⟨47, _⟩ => ⟨S16x2048x256, .f32⟩
  | .hbm, ⟨48, _⟩ => ⟨S16x2048x512, .f32⟩
  | .hbm, ⟨49, _⟩ => ⟨S16x2048x128, .f32⟩
  | .hbm, ⟨50, _⟩ => ⟨S16x2048x128, .f32⟩
  | .hbm, ⟨51, _⟩ => ⟨S16x2048x128, .f32⟩
  | .hbm, ⟨52, _⟩ => ⟨S16x2048x128, .f32⟩
  | .hbm, ⟨53, _⟩ => ⟨S16x2048x128, .f32⟩
  | .hbm, ⟨54, _⟩ => ⟨S16x2048x128, .f32⟩
  | .hbm, ⟨55, _⟩ => ⟨S16x2048x24, .f32⟩
  | .hbm, ⟨56, _⟩ => ⟨S16x2048x1024, .f32⟩
  | .hbm, ⟨57, _⟩ => ⟨S32768x1024, .f32⟩
  | .hbm, ⟨58, _⟩ => ⟨S16x2048x512, .f32⟩
  | .hbm, ⟨59, _⟩ => ⟨S32768x512, .f32⟩
  | .hbm, ⟨60, _⟩ => ⟨S32768x128, .f32⟩
  | .hbm, ⟨61, _⟩ => ⟨S32768x128, .f32⟩
  | .hbm, ⟨62, _⟩ => ⟨S_, .i32⟩
  | .hbm, ⟨63, _⟩ => ⟨S_, .f32⟩
  | .hbm, ⟨64, _⟩ => ⟨S16x2048x128, .f32⟩
  | .hbm, ⟨65, _⟩ => ⟨S32768x128, .f32⟩
  | .hbm, ⟨66, _⟩ => ⟨S32768x128, .f32⟩
  | .hbm, ⟨67, _⟩ => ⟨S32768x128, .bf16⟩
  | .hbm, ⟨68, _⟩ => ⟨S32768x128, .f32⟩
  | .hbm, ⟨69, _⟩ => ⟨S32768x128, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c : Ref sig .tc := ⟨.hbm, 62, rfl⟩
abbrev main_call0_v0 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Kernel4.lean ====
abbrev S16x2048x256 : Shape := ⟨3, ![16, 2048, 256]⟩
abbrev S32768x512 : Shape := ⟨2, ![32768, 512]⟩
abbrev S16x2048x1024 : Shape := ⟨3, ![16, 2048, 1024]⟩
abbrev S2x16x6x1024 : Shape := ⟨4, ![2, 16, 6, 1024]⟩
abbrev S2x1024x1024 : Shape := ⟨3, ![2, 1024, 1024]⟩
abbrev S2x1024 : Shape := ⟨2, ![2, 1024]⟩
abbrev S1024x16 : Shape := ⟨2, ![1024, 16]⟩
abbrev S16 : Shape := ⟨1, ![16]⟩
abbrev S16x1024 : Shape := ⟨2, ![16, 1024]⟩
abbrev S1x16x1024 : Shape := ⟨3, ![1, 16, 1024]⟩
abbrev S2x16x1024 : Shape := ⟨3, ![2, 16, 1024]⟩
abbrev S16x1 : Shape := ⟨2, ![16, 1]⟩
abbrev S32768x1024 : Shape := ⟨2, ![32768, 1024]⟩
abbrev S1x16x6x1024 : Shape := ⟨4, ![1, 16, 6, 1024]⟩
abbrev S16x6x1024 : Shape := ⟨3, ![16, 6, 1024]⟩
abbrev S32768x256 : Shape := ⟨2, ![32768, 256]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S32768x1152 : Shape := ⟨2, ![32768, 1152]⟩
abbrev S1x32768 : Shape := ⟨2, ![1, 32768]⟩
abbrev S64x4x128 : Shape := ⟨3, ![64, 4, 128]⟩
abbrev S512x256 : Shape := ⟨2, ![512, 256]⟩
abbrev S512x512 : Shape := ⟨2, ![512, 512]⟩
abbrev S512x1024 : Shape := ⟨2, ![512, 1024]⟩
abbrev S1x6x1024 : Shape := ⟨3, ![1, 6, 1024]⟩
abbrev S512x1152 : Shape := ⟨2, ![512, 1152]⟩
abbrev S1x512 : Shape := ⟨2, ![1, 512]⟩
abbrev S1x4x128 : Shape := ⟨3, ![1, 4, 128]⟩
abbrev S6x1024 : Shape := ⟨2, ![6, 1024]⟩
abbrev S256x1024 : Shape := ⟨2, ![256, 1024]⟩
abbrev S512 : Shape := ⟨1, ![512]⟩
abbrev S512x1 : Shape := ⟨2, ![512, 1]⟩
abbrev S16x512 : Shape := ⟨2, ![16, 512]⟩
abbrev S124x512 : Shape := ⟨2, ![124, 512]⟩
abbrev S128x512 : Shape := ⟨2, ![128, 512]⟩
abbrev S512x128 : Shape := ⟨2, ![512, 128]⟩
abbrev S1 : Shape := ⟨1, ![1]⟩
abbrev S1x1 : Shape := ⟨2, ![1, 1]⟩
abbrev S1x128 : Shape := ⟨2, ![1, 128]⟩
abbrev S4x128 : Shape := ⟨2, ![4, 128]⟩

abbrev nBuf : Space → Nat
  | .hbm => 34
  | .vmem => 22
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S32768x512, .bf16⟩
  | .hbm, ⟨3, _⟩ => ⟨S16x2048x1024, .f32⟩
  | .hbm, ⟨4, _⟩ => ⟨S2x16x6x1024, .f32⟩
  | .hbm, ⟨5, _⟩ => ⟨S2x1024x1024, .f32⟩
  | .hbm, ⟨6, _⟩ => ⟨S2x1024, .f32⟩
  | .hbm, ⟨7, _⟩ => ⟨S1024x16, .f32⟩
  | .hbm, ⟨8, _⟩ => ⟨S16, .f32⟩
  | .hbm, ⟨9, _⟩ => ⟨S16x1024, .f32⟩
  | .hbm, ⟨10, _⟩ => ⟨S16x1024, .bf16⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .bf16⟩
  | .hbm, ⟨15, _⟩ => ⟨S1x16x1024, .bf16⟩
  | .hbm, ⟨16, _⟩ => ⟨S1x16x1024, .bf16⟩
  | .hbm, ⟨17, _⟩ => ⟨S2x16x1024, .bf16⟩
  | .hbm, ⟨18, _⟩ => ⟨S16x1, .f32⟩
  | .hbm, ⟨19, _⟩ => ⟨S32768x1024, .f32⟩
  | .hbm, ⟨20, _⟩ => ⟨S1x16x6x1024, .f32⟩
  | .hbm, ⟨21, _⟩ => ⟨S16x6x1024, .f32⟩
  | .hbm, ⟨22, _⟩ => ⟨S32768x256, .bf16⟩
  | .hbm, ⟨23, _⟩ => ⟨S32768x256, .bf16⟩
  | .hbm, ⟨24, _⟩ => ⟨S1x1024x1024, .f32⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S32768x1024, .f32⟩
  | .hbm, ⟨31, _⟩ => ⟨S32768x1152, .f32⟩
  | .hbm, ⟨32, _⟩ => ⟨S1x32768, .i32⟩
  | .hbm, ⟨33, _⟩ => ⟨S64x4x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1024x1024, .bf16⟩
  | .local _ .vmem, ⟨11, _⟩ => ⟨S1x1024, .f32⟩
  | .local _ .vmem, ⟨12, _⟩ => ⟨S2x16x1024, .bf16⟩
  | .local _ .vmem, ⟨13, _⟩ => ⟨S16x1, .f32⟩
  | .local _ .vmem, ⟨14, _⟩ => ⟨S512x1024, .f32⟩
  | .local _ .vmem, ⟨15, _⟩ => ⟨S512x1024, .f32⟩
  | .local _ .vmem, ⟨16, _⟩ => ⟨S512x1152, .f32⟩
  | .local _ .vmem, ⟨17, _⟩ => ⟨S512x1152, .f32⟩
  | .local _ .vmem, ⟨18, _⟩ => ⟨S1x512, .i32⟩
  | .local _ .vmem, ⟨19, _⟩ => ⟨S1x512, .i32⟩
  | .local _ .vmem, ⟨20, _⟩ => ⟨S1x4x128, .f32⟩
  | .local _ .vmem, ⟨21, _⟩ => ⟨S1x4x128, .f32⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16x2048x256 : Shape := ⟨3, ![16, 2048, 256]⟩
abbrev S32768x512 : Shape := ⟨2, ![32768, 512]⟩
abbrev S16x2048x1024 : Shape := ⟨3, ![16, 2048, 1024]⟩
abbrev S2x16x6x1024 : Shape := ⟨4, ![2, 16, 6, 1024]⟩
abbrev S2x1024x1024 : Shape := ⟨3, ![2, 1024, 1024]⟩
abbrev S2x1024 : Shape := ⟨2, ![2, 1024]⟩
abbrev S1024x16 : Shape := ⟨2, ![1024, 16]⟩
abbrev S16 : Shape := ⟨1, ![16]⟩
abbrev S1x16x1x1024 : Shape := ⟨4, ![1, 16, 1, 1024]⟩
abbrev S16x1024 : Shape := ⟨2, ![16, 1024]⟩
abbrev S16x1x1024 : Shape := ⟨3, ![16, 1, 1024]⟩
abbrev S16x2048x512 : Shape := ⟨3, ![16, 2048, 512]⟩
abbrev S1x1024x1024 : Shape := ⟨3, ![1, 1024, 1024]⟩
abbrev S1024x1024 : Shape := ⟨2, ![1024, 1024]⟩
abbrev S32768x1024 : Shape := ⟨2, ![32768, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S32768x512, .bf16⟩
  | .hbm, ⟨3, _⟩ => ⟨S16x2048x1024, .f32⟩
  | .hbm, ⟨4, _⟩ => ⟨S2x16x6x1024, .f32⟩
  | .hbm, ⟨5, _⟩ => ⟨S2x1024x1024, .f32⟩
  | .hbm, ⟨6, _⟩ => ⟨S2x1024, .f32⟩
  | .hbm, ⟨7, _⟩ => ⟨S1024x16, .f32⟩
  | .hbm, ⟨8, _⟩ => ⟨S16, .f32⟩
  | .hbm, ⟨9, _⟩ => ⟨S1x16x1x1024, .f32⟩
  | .hbm, ⟨10, _⟩ => ⟨S16x1024, .f32⟩
  | .hbm, ⟨11, _⟩ => ⟨S16x1x1024, .f32⟩
  | .hbm, ⟨12, _⟩ => ⟨S16x2048x512, .bf16⟩
  | .hbm, ⟨13, _⟩ => ⟨S16x2048x1024, .bf16⟩
  | .hbm, ⟨14, _⟩ => ⟨S16x2048x1024, .f32⟩
  | .hbm, ⟨15, _⟩ => ⟨S1x1024x1024, .f32⟩
  | .hbm, ⟨16, _⟩ => ⟨S1024x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S32768x1024, .f32⟩
  | _, _ => ⟨S16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Proof.MoeRunIdeal.lean ====
/- The frame of the grouped expert feed-forward call (Kernel2Ideal): what its output block and its carried accumulator hold at
   each grid point, the proof data of its pipeline, the body's obligation and the run. -/
module

public import proofs.«01_k».proof.Proof.Gen.Kernel2Ideal.Frame.RunF
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VO0_4.read (Elt F) (VO0_4.writes (Elt F) VO0_4.junk (kernelRun0_A c i arg4 harg4 arg5 harg5 arg6 harg6 arg7 harg7 arg8 harg8 arg9 harg9 hc0 hc2 x0 x1 x2 x3 xt0 xt1 hc1).1)

/-- Case A's pieces for scratch `arg9`, which the kernel carries between points, cover it: 2 pieces of `S1024x1024` tiling it (Lib/Ring.lean `Piece.tiledL`). -/
theorem scover0_A_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_A c i arg4 harg4 arg5 harg5 arg6 harg6 arg7 harg7 arg8 harg8 arg9 harg9 hc0 hc2 x0 x1 x2 x3 xt0 xt1 hc1).2.1, y ∈ pc.1.set :=
  View.cover_of_tiledL (kernelRun0_A c i arg4 harg4 arg5 harg5 arg6 harg6 arg7 harg7 arg8 harg8 arg9 harg9 hc0 hc2 x0 x1 x2 x3 xt0 xt1 hc1).2.1 S1024x1024.size (by sl_kernel_rfl) y

/-- What case A leaves in scratch `arg9`: its pieces read back over junk. -/
def sout0_A_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_0.read (Elt F) (VS0_0.writes (Elt F) VS0_0.junk (kernelRun0_A c i arg4 harg4 arg5 harg5 arg6 harg6 arg7 harg7 arg8 harg8 arg9 harg9 hc0 hc2 x0 x1 x2 x3 xt0 xt1 hc1).2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 :=
  VO0_4.read (Elt F) (VO0_4.writes (Elt F) VO0_4.junk (kernelRun0_B c i arg4 harg4 arg5 harg5 arg6 harg6 arg7 harg7 arg8 harg8 arg9 harg9 hc0 hc2 x0 x1 x2 x3 xt0 xt1 hc1).1)

/-- Case B's pieces for scratch `arg9`, which the kernel carries between points, cover it: 1 piece of `S1024x1024` tiling it (Lib/Ring.lean `Piece.tiledL`). -/
theorem scover0_B_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_B c i arg4 harg4 arg5 harg5 arg6 harg6 arg7 harg7 arg8 harg8 arg9 harg9 hc0 hc2 x0 x1 x2 x3 xt0 xt1 hc1).2.1, y ∈ pc.1.set :=
  View.cover_of_tiledL (kernelRun0_B c i arg4 harg4 arg5 harg5 arg6 harg6 arg7 harg7 arg8 harg8 arg9 harg9 hc0 hc2 x0 x1 x2 x3 xt0 xt1 hc1).2.1 S1024x1024.size (by sl_kernel_rfl) y

/-- What case B leaves in scratch `arg9`: its pieces read back over junk. -/
def sout0_B_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_0.read (Elt F) (VS0_0.writes (Elt F) VS0_0.junk (kernelRun0_B c i arg4 harg4 arg5 harg5 arg6 harg6 arg7 harg7 arg8 harg8 arg9 harg9 hc0 hc2 x0 x1 x2 x3 xt0 xt1 hc1).2.1)

/-- Case C stores nothing into output 4 (the window is idle at its points and not written back there):
    no pieces — a placeholder (junk read back) that nothing consults, since at these points the window is neither
    written back nor read at the next point (Lib/Pipeline.lean "Idle points"). -/
def out0_C_4 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VO0_4.read (Elt F) (VO0_4.writes (Elt F) VO0_4.junk (kernelRun0_C c i arg4 harg4 arg5 harg5 arg6 harg6 arg7 harg7 arg8 harg8 arg9 harg9 hc0 hc2 x0 x1 x2 x3 xt0 xt1 xs0 hc1).1)

/-- Case C's pieces for scratch `arg9`, which the kernel carries between points, cover it: 1 piece of `S1024x1024` tiling it (Lib/Ring.lean `Piece.tiledL`). -/
theorem scover0_C_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_C c i arg4 harg4 arg5 harg5 arg6 harg6 arg7 harg7 arg8 harg8 arg9 harg9 hc0 hc2 x0 x1 x2 x3 xt0 xt1 xs0 hc1).2.1, y ∈ pc.1.set :=
  View.cover_of_tiledL (kernelRun0_C c i arg4 harg4 arg5 harg5 arg6 harg6 arg7 harg7 arg8 harg8 arg9 harg9 hc0 hc2 x0 x1 x2 x3 xt0 xt1 xs0 hc1).2.1 S1024x1024.size (by sl_kernel_rfl) y

/-- What case C leaves in scratch `arg9`: its pieces read back over junk. -/
def sout0_C_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_0.read (Elt F) (VS0_0.writes (Elt F) VS0_0.junk (kernelRun0_C c i arg4 harg4 arg5 harg5 arg6 harg6 arg7 harg7 arg8 harg8 arg9 harg9 hc0 hc2 x0 x1 x2 x3 xt0 xt1 xs0 hc1).2.1)

/-- Case D stores nothing into output 4 (the window is idle at its points and not written back there):
    no pieces — a placeholder (junk read back) that nothing consults, since at these points the window is neither
    written back nor read at the next point (Lib/Pipeline.lean "Idle points"). -/
def out0_D_4 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 :=
  VO0_4.read (Elt F) (VO0_4.writes (Elt F) VO0_4.junk (kernelRun0_D c i arg4 harg4 arg5 harg5 arg6 harg6 arg7 harg7 arg8 harg8 arg9 harg9 hc0 hc2 x0 x1 x2 x3 xt0 xt1 xs0 hc1).1)

/-- Case D stores nothing into scratch `arg9`: it holds what the point before left. -/
def sout0_D_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : ¬cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 := xs0

/-- Case E's pieces for output 4 tile its block (1 store of `S1024x1024`, checked by the kernel's evaluation: Lib/Ring.lean `Piece.tiledL`, linear in the pieces, through a loop's `@[irreducible]` trip theorem too), so they cover it. -/
theorem cover0_E_4 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_E c i arg4 harg4 arg5 harg5 arg6 harg6 arg7 harg7 arg8 harg8 arg9 harg9 hc0 hc2 x0 x1 x2 x3 xt0 xt1 xs0 hc1).1, y ∈ pc.1.set :=
  View.cover_of_tiledL (kernelRun0_E c i arg4 harg4 arg5 harg5 arg6 harg6 arg7 harg7 arg8 harg8 arg9 harg9 hc0 hc2 x0 x1 x2 x3 xt0 xt1 xs0 hc1).1 S1024x1024.size (by sl_kernel_rfl) y

/-- What case E leaves in output 4's staging buffer: its pieces read back over junk. -/
def out0_E_4 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VO0_4.read (Elt F) (VO0_4.writes (Elt F) VO0_4.junk (kernelRun0_E c i arg4 harg4 arg5 harg5 arg6 harg6 arg7 harg7 arg8 harg8 arg9 harg9 hc0 hc2 x0 x1 x2 x3 xt0 xt1 xs0 hc1).1)

/-- Case E's pieces for scratch `arg9`, which the kernel carries between points, cover it: 1 piece of `S1024x1024` tiling it (Lib/Ring.lean `Piece.tiledL`). -/
theorem scover0_E_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_E c i arg4 harg4 arg5 harg5 arg6 harg6 arg7 harg7 arg8 harg8 arg9 harg9 hc0 hc2 x0 x1 x2 x3 xt0 xt1 xs0 hc1).2.1, y ∈ pc.1.set :=
  View.cover_of_tiledL (kernelRun0_E c i arg4 harg4 arg5 harg5 arg6 harg6 arg7 harg7 arg8 harg8 arg9 harg9 hc0 hc2 x0 x1 x2 x3 xt0 xt1 xs0 hc1).2.1 S1024x1024.size (by sl_kernel_rfl) y

/-- What case E leaves in scratch `arg9`: its pieces read back over junk. -/
def sout0_E_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_0.read (Elt F) (VS0_0.writes (Elt F) VS0_0.junk (kernelRun0_E c i arg4 harg4 arg5 harg5 arg6 harg6 arg7 harg7 arg8 harg8 arg9 harg9 hc0 hc2 x0 x1 x2 x3 xt0 xt1 xs0 hc1).2.1)

/-- Case F's pieces for output 4 tile its block (1 store of `S1024x1024`, checked by the kernel's evaluation: Lib/Ring.lean `Piece.tiledL`, linear in the pieces, through a loop's `@[irreducible]` trip theorem too), so they cover it. -/
theorem cover0_F_4 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : ¬cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_F c i arg4 harg4 arg5 harg5 arg6 harg6 arg7 harg7 arg8 harg8 arg9 harg9 hc0 hc2 x0 x1 x2 x3 xt0 xt1 xs0 hc1).1, y ∈ pc.1.set :=
  View.cover_of_tiledL (kernelRun0_F c i arg4 harg4 arg5 harg5 arg6 harg6 arg7 harg7 arg8 harg8 arg9 harg9 hc0 hc2 x0 x1 x2 x3 xt0 xt1 xs0 hc1).1 S1024x1024.size (by sl_kernel_rfl) y

/-- What case F leaves in output 4's staging buffer: its pieces read back over junk. -/
def out0_F_4 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 :=
  VO0_4.read (Elt F) (VO0_4.writes (Elt F) VO0_4.junk (kernelRun0_F c i arg4 harg4 arg5 harg5 arg6 harg6 arg7 harg7 arg8 harg8 arg9 harg9 hc0 hc2 x0 x1 x2 x3 xt0 xt1 xs0 hc1).1)

/-- Case F stores nothing into scratch `arg9`: it holds what the point before left. -/
def sout0_F_0 (c : Dev nD) (i : grid0.Coords) (arg4 : Memref sig .tc .vmem S1024x1152 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc2 : cond0_2 i)
    (x0 : Vec F S1024x1152 .f32) (x1 : Vec F S1x1x1024x512 .f32) (x2 : Vec F S1x1x1024x512 .f32) (x3 : Vec F S1x1x512x1024 .f32) (xt0 : TbBuf0 (F := F) c tbM0_0) (xt1 : TbBuf0 (F := F) c tbM0_1) (xs0 : Vec F S1024x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 := xs0

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1024x1024 .f32 × Vec F S1024x1024 .f32
  | 0, hn => if h1 : cond0_1 (grid0.coords ⟨0, hn⟩) (tbM0_1.view.readAt (Elt F) (Rect.unit (s := S1) ![0] S1.size inb_S1_S1_0).toLoadRect (tbl m 1) (Shape.Idx.first (numel1_S1.symm ▸ Nat.one_pos))) then
      (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
    else
      (out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
  | n + 1, hn =>
    if h1 : cond0_1 (grid0.coords ⟨n + 1, hn⟩) (tbM0_1.view.readAt (Elt F) (Rect.unit (s := S1) ![0] S1.size inb_S1_S1_0).toLoadRect (tbl m 1) (Shape.Idx.first (numel1_S1.symm ▸ Nat.one_pos))) then
      if h0 : (n + 1) % 4 = 0 then
        if h2 : (n + 1) % 4 = 3 then
          False.elim (by have hN : n + 1 < 144 := lt_of_lt_of_eq hn (show (cfgM m hO).N = 144 from N_0); omega)
        else
          (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 4 = 3 then
          (out0_E_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1)
        else
          (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1)
    else
      if h0 : (n + 1) % 4 = 0 then
        if h2 : (n + 1) % 4 = 3 then
          False.elim (by have hN : n + 1 < 144 := lt_of_lt_of_eq hn (show (cfgM m hO).N = 144 from N_0); omega)
        else
          (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 4 = 3 then
          (out0_F_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1, sout0_F_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1)
        else
          (out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2 h1)

/-- `outsAt0` at a point of case A: that case's contents. -/
theorem outsAt0_A (hO : Ok m) (c : Dev nD) (t : Fin (cfgM m hO).N) (h0 : t.val % 4 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 4 = 3) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => rw [outsAt0, dif_pos h1]
  | succ n => rw [outsAt0, dif_pos h1, dif_pos h0, dif_neg h2]

/-- `outsAt0` at a point of case B: that case's contents. -/
theorem outsAt0_B (hO : Ok m) (c : Dev nD) (t : Fin (cfgM m hO).N) (h0 : t.val % 4 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 4 = 3) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => rw [outsAt0, dif_neg h1]
  | succ n => rw [outsAt0, dif_neg h1, dif_pos h0, dif_neg h2]

/-- `outsAt0` at two names of one point. -/
theorem outsAt0_congr (hO : Ok m) (c : Dev nD) (n k : ℕ) (h : k = n) (hn : n < (cfgM m hO).N) :
    outsAt0 m hO c n hn = outsAt0 m hO c k (h ▸ hn) := by
  subst h; rfl

/-- `outsAt0` at a point of case C: that case's contents, over what the point before left. -/
theorem outsAt0_C (hO : Ok m) (c : Dev nD) (t : Fin (cfgM m hO).N) (h0 : ¬t.val % 4 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 4 = 3) :
    outsAt0 m hO c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => rw [outsAt0, dif_pos h1, dif_neg h0, dif_neg h2, outsAt0_congr m hO c n (n + 1 - 1) rfl]

/-- `outsAt0` at a point of case D: that case's contents, over what the point before left. -/
theorem outsAt0_D (hO : Ok m) (c : Dev nD) (t : Fin (cfgM m hO).N) (h0 : ¬t.val % 4 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 4 = 3) :
    outsAt0 m hO c t.val t.isLt = (out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => rw [outsAt0, dif_neg h1, dif_neg h0, dif_neg h2, outsAt0_congr m hO c n (n + 1 - 1) rfl]

/-- `outsAt0` at a point of case E: that case's contents, over what the point before left. -/
theorem outsAt0_E (hO : Ok m) (c : Dev nD) (t : Fin (cfgM m hO).N) (h0 : ¬t.val % 4 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 4 = 3) :
    outsAt0 m hO c t.val t.isLt = (out0_E_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => rw [outsAt0, dif_pos h1, dif_neg h0, dif_pos h2, outsAt0_congr m hO c n (n + 1 - 1) rfl]

/-- `outsAt0` at a point of case F: that case's contents, over what the point before left. -/
theorem outsAt0_F (hO : Ok m) (c : Dev nD) (t : Fin (cfgM m hO).N) (h0 : ¬t.val % 4 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 4 = 3) :
    outsAt0 m hO c t.val t.isLt = (out0_F_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2 h1) := by
  obtain ⟨n, hn⟩ := t
  cases n with
  | zero => exact (by exfalso; (try dsimp only at h0); exact absurd (Nat.zero_mod _) h0)
  | succ n => rw [outsAt0, dif_neg h1, dif_neg h0, dif_pos h2, outsAt0_congr m hO c n (n + 1 - 1) rfl]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 144 := lt_of_lt_of_eq t.isLt (show (cfgM m hO).N = 144 from N_0)
  by_cases h0 : t.val % 4 = 0
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 4 = 3
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_A m hO t ((hcond0_0 t).mpr h0) (fun h => h2 ((hcond0_2 t).mp h))) (noFlush0_4_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_A m hO c t h0 h1 h2]
          unfold sout0_A_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
    · by_cases h2 : t.val % 4 = 3
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_B m hO t ((hcond0_0 t).mpr h0) (fun h => h2 ((hcond0_2 t).mp h))) (noFlush0_4_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_B m hO c t h0 h1 h2]
          unfold sout0_B_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 4 = 3
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_E m hO t (fun h => h0 ((hcond0_0 t).mp h)) ((hcond0_2 t).mpr h2)]; try rfl, after0_4]
        by_cases hz : t.val = 0
        · exfalso; have hN : t.val < 144 := lt_of_lt_of_eq t.isLt (show (cfgM m hO).N = 144 from N_0); omega
        · rw [PhiS_castSucc m hO c t, PhiS_pos m hO c _ _ hz, PhiT0_eq]
          rw [outsAt0_E m hO c t h0 h1 h2]
          unfold out0_E_4 sout0_E_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_E c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          iintro ⟨H0, H1, H2, H3, ⟨%e4, H4⟩, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_E_4 c _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_C m hO t (fun h => h0 ((hcond0_0 t).mp h)) (fun h => h2 ((hcond0_2 t).mp h))) (noFlush0_4_C m hO t (fun h => h0 ((hcond0_0 t).mp h)) (fun h => h2 ((hcond0_2 t).mp h)))]
        by_cases hz : t.val = 0
        · exfalso; have hN : t.val < 144 := lt_of_lt_of_eq t.isLt (show (cfgM m hO).N = 144 from N_0); omega
        · rw [PhiS_castSucc m hO c t, PhiS_pos m hO c _ _ hz, PhiT0_eq]
          rw [outsAt0_C m hO c t h0 h1 h2]
          unfold sout0_C_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (tbl m 0) (tbl m 1) _ h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          iintro ⟨H0, H1, H2, H3, H4, ⟨%es0, HS0⟩, HT0, HT1⟩
          isplitl [HS0 Hg HT0 HT1]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
    · by_cases h2 : t.val % 4 = 3
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_F m hO t (fun h => h0 ((hcond0_0 t).mp h)) ((hcond0_2 t).mpr h2)]; try rfl, after0_4]
        by_cases hz : t.val = 0
        · exfalso; have hN : t.val < 144 := lt_of_lt_of_eq t.isLt (show (cfgM m hO).N = 144 from N_0); omega
        · rw [PhiS_castSucc m hO c t, PhiS_pos m hO c _ _ hz, PhiT0_eq]
          rw [outsAt0_F m hO c t h0 h1 h2]
          unfold out0_F_4 sout0_F_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_F c (grid0.coords t) _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ h1).2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HT0]; · iexact HT0
          isplitl [HT1]; · iexact HT1
          iintro ⟨H0, H1, H2, H3, ⟨%e4, H4⟩, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_F_4 c _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_D m hO t (fun h => h0 ((hcond0_0 t).mp h)) (fun h => h2 ((hcond0_2 t).mp h))) (noFlush0_4_D m hO t (fun h => h0 ((hcond0_0 t).mp h)) (fun h => h2 ((hcond0_2 t).mp h)))]
        by_cases hz : t.val = 0
        · exfalso; have hN : t.val < 144 := lt_of_lt_of_eq t.isLt (show (cfgM m hO).N = 144 from N_0); omega
        · rw [PhiS_castSucc m hO c t, PhiS_pos m hO c _ _ hz, PhiT0_eq]
          rw [outsAt0_D m hO c t h0 h1 h2]
          unfold sout0_D_0; (try dsimp only)
          iintro ⟨⟨⟨HS0, Hg⟩, ⟨HT0, HT1⟩⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (tbl m 0) (tbl m 1) _ h1).2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HT0]; · iexact HT0
          isplitl [HT1]; · iexact HT1
          iintro ⟨H0, H1, H2, H3, H4, HS0, HT0, HT1⟩
          isplitl [HS0 Hg HT0 HT1]
          · isplitl [HS0 Hg]
            · isplitl [HS0]
              · iexact HS0
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 144 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`; here for every contents of the PREFETCHED TABLES, UNDER `Gen.Ok m` (the pipeline's side condition of
    them), which Proof.lean proves from the precondition: `⟨…, fun m ρ h => Cert.Kernel2Ideal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel2Ideal.Gen

end
-- ==== Proof.Vocab.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

/-! One name for each intermediate value of the mixer's body, uniform in the batch row and the head,
so that the eight heads of a grid point are read by one proof. -/

noncomputable section

namespace Cert.KernelIdeal.Mixer

open Cert.KernelIdeal Cert.KernelIdeal.Gen Idealize.ShloMosaic Idealize.ShloMosaic.TcCoe Idealize.SL.Sem

variable {F : FTy → Type} [FloatOps F]

/-- One 128-lane slab turned by the rotary angles: two heads of 64 lanes side by side. -/
def slab (y cs sn : FVec F S128x128 .f32) : FVec F S128x128 .f32 :=
  addf (mulf y cs) (mulf (select (cmpi .slt (andi (iota .tc S128x128 32 [1] iota_S128x128_d1_w32) (broadcast S128x128 63#32)) (broadcast S128x128 32#32))
    (subf (broadcast S128x128 (Scalar.ofBits .f32 0x00000000#32)) (dynamicRotate 1 96#32 none y rotates_S128x128_d1))
    (dynamicRotate 1 32#32 none y rotates_S128x128_d1)) sn)

/-- The four heads of a chunk turned by the rotary angles: both slabs. -/
def roped (z : Vec F S1x128x256 .f32) (cs sn : Vec F S1x128x128 .f32) : FVec F S128x256 .f32 :=
  concatenate S128x256 1
    [⟨S128x128, slab (extractStridedSlice S128x128 ![0, 0] (shapeCast S128x256 z shapeCasts_S1x128x256_S128x256) slices_S128x256_o0_0_S128x128)
        (shapeCast S128x128 cs shapeCasts_S1x128x128_S128x128) (shapeCast S128x128 sn shapeCasts_S1x128x128_S128x128)⟩,
     ⟨S128x128, slab (extractStridedSlice S128x128 ![0, 128] (shapeCast S128x256 z shapeCasts_S1x128x256_S128x256) slices_S128x256_o0_128_S128x128)
        (shapeCast S128x128 cs shapeCasts_S1x128x128_S128x128) (shapeCast S128x128 sn shapeCasts_S1x128x128_S128x128)⟩]
    concatenates_S128x128_S128x128_S128x256_d1

/-- The keys: turned, then scaled. -/
def keys (z : Vec F S1x128x256 .f32) (cs sn : Vec F S1x128x128 .f32) : FVec F S128x256 .f32 :=
  mulf (roped z cs sn) (broadcast S128x256 (Scalar.ofBits .f32 0x3E000000#32))

/-- Head `h`'s 64 lanes lie inside the 256. -/
theorem slicesHead (h : Fin 4) : S128x256.Slices ![0, 64 * h.val] S128x64 := by
  revert h; decide

/-- Head `h` of a chunk's 256 lanes. -/
def head (h : Fin 4) (x : FVec F S128x256 .f32) : FVec F S128x64 .f32 :=
  extractStridedSlice S128x64 ![0, 64 * h.val] x (slicesHead h)

/-- The products inside the chunk: scores under the causal decay, times the values. -/
def innerOut (q k v : FVec F S128x64 .f32) (din : Vec F S1x128x128 .f32) : FVec F S128x64 .f32 :=
  matmul dot_S128x128_S128x64_S128x64_1_0_0_1_n_n none
    (truncf .bf16 (mulf (matmul dot_S128x64_S128x64_S128x128_1_1_0_0_n_n none (truncf .bf16 q bitsLt_bf16_f32) (truncf .bf16 k bitsLt_bf16_f32)
      (constant S128x128 .f32 0x00000000#32)) (shapeCast S128x128 din shapeCasts_S1x128x128_S128x128)) bitsLt_bf16_f32)
    (truncf .bf16 v bitsLt_bf16_f32) (constant S128x64 .f32 0x00000000#32)

/-- A head's output before its norm: the chunk's own products plus the decayed read of the state. -/
def rawOut (q k v : FVec F S128x64 .f32) (st : Vec F S1x1x64x64 .f32) (din : Vec F S1x128x128 .f32) (dq : Vec F S1x128x64 .f32) : FVec F S128x64 .f32 :=
  addf (innerOut q k v din)
    (mulf (matmul dot_S128x64_S64x64_S128x64_1_0_0_1_n_n none (truncf .bf16 q bitsLt_bf16_f32)
      (truncf .bf16 (shapeCast S64x64 st shapeCasts_S1x1x64x64_S64x64) bitsLt_bf16_f32) (constant S128x64 .f32 0x00000000#32))
      (shapeCast S128x64 dq shapeCasts_S1x128x64_S128x64))

/-- A head's 64 lanes divided by the root of their mean square, times the head's gain. -/
def normed (o : FVec F S128x64 .f32) (rg : Vec F S1x1x64 .f32) : FVec F S128x64 .f32 :=
  mulf (mulf o (broadcastTo S128x64 (rsqrt (addf (divf
      (shapeCast S128x1 (multiReduction .add [1] S128 (mulf o o) 0x00000000#32 reduces_S128x64_S128 (.inl rfl) rfl) shapeCasts_S128_S128x1)
      (broadcast S128x1 (Scalar.ofBits .f32 0x42800000#32))) (broadcast S128x1 (Scalar.ofBits .f32 0x358637BD#32)))) broadcasts_S128x1_S128x64))
    (broadcastTo S128x64 (shapeCast S1x64 rg shapeCasts_S1x1x64_S1x64) broadcasts_S1x64_S128x64)

/-- What a head leaves in its state: the state decayed over the chunk plus the chunk's decayed products of keys and values. -/
def stNext (k v : FVec F S128x64 .f32) (st : Vec F S1x1x64x64 .f32) (dc : Vec F S1x64x64 .f32) (dk : Vec F S1x128x64 .f32) : FVec F S1x1x64x64 .f32 :=
  shapeCast S1x1x64x64 (addf (mulf (shapeCast S64x64 st shapeCasts_S1x1x64x64_S64x64) (shapeCast S64x64 dc shapeCasts_S1x64x64_S64x64))
    (matmul dot_S64x128_S128x64_S64x64_1_0_0_1_n_n none
      (truncf .bf16 (transpose S64x128 [1, 0] (mulf k (shapeCast S128x64 dk shapeCasts_S1x128x64_S128x64)) transposes_S128x64_p1_0_S64x128) bitsLt_bf16_f32)
      (truncf .bf16 v bitsLt_bf16_f32) (constant S64x64 .f32 0x00000000#32))) shapeCasts_S64x64_S1x1x64x64

/-- The retention result of one batch row: the four heads side by side, gated. -/
def yRet (g : Vec F S1x128x256 .f32) (o : Fin 4 → FVec F S128x64 .f32) : FVec F S1x128x256 .bf16 :=
  shapeCast S1x128x256 (truncf .bf16 (mulf
    (concatenate S128x256 1 [⟨S128x64, o 0⟩, ⟨S128x64, o 1⟩, ⟨S128x64, o 2⟩, ⟨S128x64, o 3⟩] concatenates_S128x64_S128x64_S128x64_S128x64_S128x256_d1)
    (mulf (shapeCast S128x256 g shapeCasts_S1x128x256_S128x256) (logistic (shapeCast S128x256 g shapeCasts_S1x128x256_S128x256)))) bitsLt_bf16_f32)
    shapeCasts_S128x256_S1x128x256

/-- The smooth gate of the spatial MLP, elementwise. -/
def gelu (z : Vec F S1x128x256 .f32) : FVec F S128x256 .f32 :=
  k0_pay48 z

/-- The gated half, centred, divided by its deviation and times its gain. -/
def lnorm (z : Vec F S1x128x256 .f32) (lg : Vec F S1x256 .f32) : FVec F S128x256 .f32 :=
  k0_pay51 (k0_pay49 z) (k0_pay50 z) lg

/-- One group's mixing over the positions of the chunk: its lower-triangular weights times the normed half, plus its bias. -/
def mixed (h : Fin 4) (w : Vec F S1x128x128 .f32) (vn : FVec F S128x256 .f32) (b : Vec F S1x128x64 .f32) : FVec F S128x64 .f32 :=
  addf (matmul dot_S128x128_S128x64_S128x64_1_0_0_1_n_n none (k0_pay2 w) (truncf .bf16 (head h vn) bitsLt_bf16_f32) (constant S128x64 .f32 0x00000000#32))
    (shapeCast S128x64 b shapeCasts_S1x128x64_S128x64)

/-- The spatial MLP's result of one batch row. -/
def yGm (u : FVec F S128x256 .f32) (o : Fin 4 → FVec F S128x64 .f32) : FVec F S1x128x256 .bf16 :=
  shapeCast S1x128x256 (truncf .bf16 (mulf u
    (concatenate S128x256 1 [⟨S128x64, o 0⟩, ⟨S128x64, o 1⟩, ⟨S128x64, o 2⟩, ⟨S128x64, o 3⟩] concatenates_S128x64_S128x64_S128x64_S128x64_S128x256_d1)) bitsLt_bf16_f32)
    shapeCasts_S128x256_S1x128x256

/-- Part `p` (queries, keys, values, gate: 256 lanes each) of batch row `b`'s projections. -/
def part (x : Vec F S2x128x1024 .f32) (b : Fin 2) (p : Fin 4) : Vec F S1x128x256 .f32 :=
  View.ld x (Rect.unit (s := S2x128x1024) ![b.val, 0, 256 * p.val] S1x128x256.size (by revert b p; decide))

/-- Half `p` of batch row `b`'s inputs to the spatial MLP. -/
def half (x : Vec F S2x128x512 .f32) (b : Fin 2) (p : Fin 2) : Vec F S1x128x256 .f32 :=
  View.ld x (Rect.unit (s := S2x128x512) ![b.val, 0, 256 * p.val] S1x128x256.size (by revert b p; decide))

/-- Batch row `b` of a rotary table. -/
def row (x : Vec F S2x128x128 .f32) (b : Fin 2) : Vec F S1x128x128 .f32 :=
  View.ld x (Rect.unit (s := S2x128x128) ![b.val, 0, 0] S1x128x128.size (by revert b; decide))

/-- Head `h` of a table of one 128 × 128 block per head. -/
def sq (x : Vec F S4x128x128 .f32) (h : Fin 4) : Vec F S1x128x128 .f32 :=
  View.ld x (Rect.unit (s := S4x128x128) ![h.val, 0, 0] S1x128x128.size (by revert h; decide))

/-- Head `h` of a table of one 128 × 64 block per head. -/
def tl (x : Vec F S4x128x64 .f32) (h : Fin 4) : Vec F S1x128x64 .f32 :=
  View.ld x (Rect.unit (s := S4x128x64) ![h.val, 0, 0] S1x128x64.size (by revert h; decide))

/-- Head `h` of a table of one 64 × 64 block per head. -/
def sm (x : Vec F S4x64x64 .f32) (h : Fin 4) : Vec F S1x64x64 .f32 :=
  View.ld x (Rect.unit (s := S4x64x64) ![h.val, 0, 0] S1x64x64.size (by revert h; decide))

/-- Head `h` of the gains. -/
def gain (x : Vec F S4x1x64 .f32) (h : Fin 4) : Vec F S1x1x64 .f32 :=
  View.ld x (Rect.unit (s := S4x1x64) ![h.val, 0, 0] S1x1x64.size (by revert h; decide))

/-- Batch row `b`, head `h` of the carried state. -/
def cell (x : Vec F S2x4x64x64 .f32) (b : Fin 2) (h : Fin 4) : Vec F S1x1x64x64 .f32 :=
  View.ld x (Rect.unit (s := S2x4x64x64) ![b.val, h.val, 0, 0] S1x1x64x64.size (by revert b h; decide))

/-- What a grid point leaves in batch row `b`, head `h` of the carried state, over the state it found. -/
def stBlk (x0 : Vec F S2x128x1024 .f32) (x2 x3 : Vec F S2x128x128 .f32) (x6 : Vec F S4x128x64 .f32) (x7 : Vec F S4x64x64 .f32)
    (acc : Vec F S2x4x64x64 .f32) (b : Fin 2) (h : Fin 4) : FVec F S1x1x64x64 .f32 :=
  stNext (head h (keys (part x0 b 1) (row x2 b) (row x3 b))) (head h (shapeCast S128x256 (part x0 b 2) shapeCasts_S1x128x256_S128x256))
    (cell acc b h) (sm x7 h) (tl x6 h)

/-- The carried state as one array of its cells. -/
def stArr (blk : Fin 2 → Fin 4 → FVec F S1x1x64x64 .f32) : Vec F S2x4x64x64 .f32 :=
  fun j => blk (j 0) (j 1) (ix4 0 0 (j 2) (j 3))

/-- The array of cells, read in a cell. -/
theorem stArr_emb (blk : Fin 2 → Fin 4 → FVec F S1x1x64x64 .f32) (b : Fin 2) (h : Fin 4) (inb) (x : S1x1x64x64.Idx) :
    stArr blk ((Rect.unit (s := S2x4x64x64) ![b.val, h.val, 0, 0] S1x1x64x64.size inb).emb x) = blk b h x := by
  idx_vars x
  have e : (Rect.unit (s := S2x4x64x64) ![b.val, h.val, 0, 0] S1x1x64x64.size inb).emb (ix4 x0 x1 x2 x3) = ix4 b h x2 x3 := by
    funext a
    apply Fin.ext
    match a with
    | ⟨0, _⟩ => show b.val + 1 * x0.val = b.val; omega
    | ⟨1, _⟩ => show h.val + 1 * x1.val = h.val; omega
    | ⟨2, _⟩ => show 0 + 1 * x2.val = x2.val; omega
    | ⟨3, _⟩ => show 0 + 1 * x3.val = x3.val; omega
  rw [e]
  obtain rfl : x0 = 0 := Subsingleton.elim _ _
  obtain rfl : x1 = 0 := Subsingleton.elim _ _
  rfl

/-- One head's normed output in batch row `b`, over the state the grid point found. -/
def outBlk (x0 : Vec F S2x128x1024 .f32) (x2 x3 : Vec F S2x128x128 .f32) (x4 : Vec F S4x128x128 .f32) (x5 : Vec F S4x128x64 .f32) (x8 : Vec F S4x1x64 .f32)
    (acc : Vec F S2x4x64x64 .f32) (b : Fin 2) (h : Fin 4) : FVec F S128x64 .f32 :=
  normed (rawOut (head h (roped (part x0 b 0) (row x2 b) (row x3 b))) (head h (keys (part x0 b 1) (row x2 b) (row x3 b)))
    (head h (shapeCast S128x256 (part x0 b 2) shapeCasts_S1x128x256_S128x256)) (cell acc b h) (sq x4 h) (tl x5 h)) (gain x8 h)

/-- What a grid point writes for the retention in batch row `b`. -/
def retBlk (x0 : Vec F S2x128x1024 .f32) (x2 x3 : Vec F S2x128x128 .f32) (x4 : Vec F S4x128x128 .f32) (x5 : Vec F S4x128x64 .f32) (x8 : Vec F S4x1x64 .f32)
    (acc : Vec F S2x4x64x64 .f32) (b : Fin 2) : FVec F S1x128x256 .bf16 :=
  yRet (part x0 b 3) (outBlk x0 x2 x3 x4 x5 x8 acc b)

/-- What a grid point writes for the spatial MLP in batch row `b`. -/
def gmBlk (x1 : Vec F S2x128x512 .f32) (x9 : Vec F S1x256 .f32) (x10 : Vec F S4x128x128 .f32) (x11 : Vec F S4x128x64 .f32) (b : Fin 2) : FVec F S1x128x256 .bf16 :=
  yGm (gelu (half x1 b 0)) (fun h => mixed h (sq x10 h) (lnorm (half x1 b 1) x9) (tl x11 h))

/-- A result block as one array of its two batch rows. -/
def rowArr (blk : Fin 2 → FVec F S1x128x256 .bf16) : Vec F S2x128x256 .bf16 :=
  fun j => blk (j 0) (ix3 0 (j 1) (j 2))

/-- The array of batch rows, read in a row. -/
theorem rowArr_emb (blk : Fin 2 → FVec F S1x128x256 .bf16) (b : Fin 2) (inb) (x : S1x128x256.Idx) :
    rowArr blk ((Rect.unit (s := S2x128x256) ![b.val, 0, 0] S1x128x256.size inb).emb x) = blk b x := by
  idx_vars x
  have e : (Rect.unit (s := S2x128x256) ![b.val, 0, 0] S1x128x256.size inb).emb (ix3 x0 x1 x2) = ix3 b x1 x2 := by
    funext a
    apply Fin.ext
    match a with
    | ⟨0, _⟩ => show b.val + 1 * x0.val = b.val; omega
    | ⟨1, _⟩ => show 0 + 1 * x1.val = x1.val; omega
    | ⟨2, _⟩ => show 0 + 1 * x2.val = x2.val; omega
  rw [e]
  obtain rfl : x0 = 0 := Subsingleton.elim _ _
  rfl

end Cert.KernelIdeal.Mixer

end
-- ==== Proof.Block.lean ====
module

public import proofs.«01_k».proof.Proof.Vocab

@[expose] public section

set_option maxRecDepth 16384

/-! What a grid point leaves: the carried state and the two result blocks, in the uniform names. -/

noncomputable section

namespace Cert.KernelIdeal.Mixer

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The state a grid point leaves when it starts from the state of the point before. -/
theorem state_B (c : Dev nD) (t : Fin cfg0.N) (h0 : ¬ t.val % 16 = 0) :
    (outsAt0 m c t.val t.isLt).2.2 = stArr (stBlk (iblk m c 0 t) (iblk m c 2 t) (iblk m c 3 t) (iblk m c 6 t) (iblk m c 7 t)
      (outsAt0 m c (t.val - 1) (Nat.lt_of_le_of_lt (Nat.sub_le _ _) t.isLt)).2.2) := by
  rw [outsAt0_B m c t h0]
  dsimp only
  generalize (outsAt0 m c (t.val - 1) (Nat.lt_of_le_of_lt (Nat.sub_le _ _) t.isLt)).2.2 = acc
  frame_open
  simp (disch := decide) only [↓ View.readCov_skip, ↓ View.readCov_cons_toLoadRect, ↓ View.readCov_fill]
  frame_out
  simp only [read_unread_whole]
  funext y
  refine View.canon_append_of_piecesOf (stArr (stBlk (F := F) (iblk m c 0 t) (iblk m c 2 t) (iblk m c 3 t) (iblk m c 6 t) (iblk m c 7 t) acc)) [] [_, _, _, _, _, _, _, _] ⟨fun x => ?_, fun x => ?_, fun x => ?_, fun x => ?_, fun x => ?_, fun x => ?_, fun x => ?_, fun x => ?_, trivial⟩ y (View.cover_of_tiledL _ ![1, 1, 64, 64] (by sl_kernel_rfl) y)
  · exact (stArr_emb (stBlk (F := F) (iblk m c 0 t) (iblk m c 2 t) (iblk m c 3 t) (iblk m c 6 t) (iblk m c 7 t) acc) 1 3 inb_S2x4x64x64_S1x1x64x64_1_3_0_0 x).symm
  · exact (stArr_emb (stBlk (F := F) (iblk m c 0 t) (iblk m c 2 t) (iblk m c 3 t) (iblk m c 6 t) (iblk m c 7 t) acc) 1 2 inb_S2x4x64x64_S1x1x64x64_1_2_0_0 x).symm
  · exact (stArr_emb (stBlk (F := F) (iblk m c 0 t) (iblk m c 2 t) (iblk m c 3 t) (iblk m c 6 t) (iblk m c 7 t) acc) 1 1 inb_S2x4x64x64_S1x1x64x64_1_1_0_0 x).symm
  · exact (stArr_emb (stBlk (F := F) (iblk m c 0 t) (iblk m c 2 t) (iblk m c 3 t) (iblk m c 6 t) (iblk m c 7 t) acc) 1 0 inb_S2x4x64x64_S1x1x64x64_1_0_0_0 x).symm
  · exact (stArr_emb (stBlk (F := F) (iblk m c 0 t) (iblk m c 2 t) (iblk m c 3 t) (iblk m c 6 t) (iblk m c 7 t) acc) 0 3 inb_S2x4x64x64_S1x1x64x64_0_3_0_0 x).symm
  · exact (stArr_emb (stBlk (F := F) (iblk m c 0 t) (iblk m c 2 t) (iblk m c 3 t) (iblk m c 6 t) (iblk m c 7 t) acc) 0 2 inb_S2x4x64x64_S1x1x64x64_0_2_0_0 x).symm
  · exact (stArr_emb (stBlk (F := F) (iblk m c 0 t) (iblk m c 2 t) (iblk m c 3 t) (iblk m c 6 t) (iblk m c 7 t) acc) 0 1 inb_S2x4x64x64_S1x1x64x64_0_1_0_0 x).symm
  · exact (stArr_emb (stBlk (F := F) (iblk m c 0 t) (iblk m c 2 t) (iblk m c 3 t) (iblk m c 6 t) (iblk m c 7 t) acc) 0 0 inb_S2x4x64x64_S1x1x64x64_0_0_0_0 x).symm

/-- The state a grid point leaves when it is the first of its batch rows: it starts from zero. -/
theorem state_A (c : Dev nD) (t : Fin cfg0.N) (h0 : t.val % 16 = 0) :
    (outsAt0 m c t.val t.isLt).2.2 = stArr (stBlk (iblk m c 0 t) (iblk m c 2 t) (iblk m c 3 t) (iblk m c 6 t) (iblk m c 7 t)
      (k0_pay1 (F := F))) := by
  rw [outsAt0_A m c t h0]
  dsimp only
  frame_open
  simp (disch := decide) only [↓ View.readCov_skip, ↓ View.readCov_cons_toLoadRect, ↓ View.readCov_fill]
  frame_out
  funext y
  refine View.canon_append_of_piecesOf (stArr (stBlk (F := F) (iblk m c 0 t) (iblk m c 2 t) (iblk m c 3 t) (iblk m c 6 t) (iblk m c 7 t) (k0_pay1 (F := F)))) [_] [_, _, _, _, _, _, _, _] ⟨fun x => ?_, fun x => ?_, fun x => ?_, fun x => ?_, fun x => ?_, fun x => ?_, fun x => ?_, fun x => ?_, trivial⟩ y (View.cover_of_tiledL _ ![1, 1, 64, 64] (by sl_kernel_rfl) y)
  · exact (stArr_emb (stBlk (F := F) (iblk m c 0 t) (iblk m c 2 t) (iblk m c 3 t) (iblk m c 6 t) (iblk m c 7 t) (k0_pay1 (F := F))) 1 3 inb_S2x4x64x64_S1x1x64x64_1_3_0_0 x).symm
  · exact (stArr_emb (stBlk (F := F) (iblk m c 0 t) (iblk m c 2 t) (iblk m c 3 t) (iblk m c 6 t) (iblk m c 7 t) (k0_pay1 (F := F))) 1 2 inb_S2x4x64x64_S1x1x64x64_1_2_0_0 x).symm
  · exact (stArr_emb (stBlk (F := F) (iblk m c 0 t) (iblk m c 2 t) (iblk m c 3 t) (iblk m c 6 t) (iblk m c 7 t) (k0_pay1 (F := F))) 1 1 inb_S2x4x64x64_S1x1x64x64_1_1_0_0 x).symm
  · exact (stArr_emb (stBlk (F := F) (iblk m c 0 t) (iblk m c 2 t) (iblk m c 3 t) (iblk m c 6 t) (iblk m c 7 t) (k0_pay1 (F := F))) 1 0 inb_S2x4x64x64_S1x1x64x64_1_0_0_0 x).symm
  · exact (stArr_emb (stBlk (F := F) (iblk m c 0 t) (iblk m c 2 t) (iblk m c 3 t) (iblk m c 6 t) (iblk m c 7 t) (k0_pay1 (F := F))) 0 3 inb_S2x4x64x64_S1x1x64x64_0_3_0_0 x).symm
  · exact (stArr_emb (stBlk (F := F) (iblk m c 0 t) (iblk m c 2 t) (iblk m c 3 t) (iblk m c 6 t) (iblk m c 7 t) (k0_pay1 (F := F))) 0 2 inb_S2x4x64x64_S1x1x64x64_0_2_0_0 x).symm
  · exact (stArr_emb (stBlk (F := F) (iblk m c 0 t) (iblk m c 2 t) (iblk m c 3 t) (iblk m c 6 t) (iblk m c 7 t) (k0_pay1 (F := F))) 0 1 inb_S2x4x64x64_S1x1x64x64_0_1_0_0 x).symm
  · exact (stArr_emb (stBlk (F := F) (iblk m c 0 t) (iblk m c 2 t) (iblk m c 3 t) (iblk m c 6 t) (iblk m c 7 t) (k0_pay1 (F := F))) 0 0 inb_S2x4x64x64_S1x1x64x64_0_0_0_0 x).symm

/-- The retention block a grid point writes when it starts from the state of the point before. -/
theorem ret_B (c : Dev nD) (t : Fin cfg0.N) (h0 : ¬ t.val % 16 = 0) :
    (outsAt0 m c t.val t.isLt).1 = rowArr (retBlk (iblk m c 0 t) (iblk m c 2 t) (iblk m c 3 t) (iblk m c 4 t) (iblk m c 5 t) (iblk m c 8 t)
      (outsAt0 m c (t.val - 1) (Nat.lt_of_le_of_lt (Nat.sub_le _ _) t.isLt)).2.2) := by
  rw [outsAt0_B m c t h0]
  dsimp only
  generalize (outsAt0 m c (t.val - 1) (Nat.lt_of_le_of_lt (Nat.sub_le _ _) t.isLt)).2.2 = acc
  frame_open
  simp (disch := decide) only [↓ View.readCov_skip, ↓ View.readCov_cons_toLoadRect, ↓ View.readCov_fill]
  frame_out
  simp only [read_unread_whole]
  funext y
  refine View.canon_append_of_piecesOf (rowArr (retBlk (F := F) (iblk m c 0 t) (iblk m c 2 t) (iblk m c 3 t) (iblk m c 4 t) (iblk m c 5 t) (iblk m c 8 t) acc)) [] [_, _] ⟨fun x => ?_, fun x => ?_, trivial⟩ y (View.cover_of_tiledL _ ![1, 128, 256] (by sl_kernel_rfl) y)
  · exact (rowArr_emb (retBlk (F := F) (iblk m c 0 t) (iblk m c 2 t) (iblk m c 3 t) (iblk m c 4 t) (iblk m c 5 t) (iblk m c 8 t) acc) 1 inb_S2x128x256_S1x128x256_1_0_0 x).symm
  · exact (rowArr_emb (retBlk (F := F) (iblk m c 0 t) (iblk m c 2 t) (iblk m c 3 t) (iblk m c 4 t) (iblk m c 5 t) (iblk m c 8 t) acc) 0 inb_S2x128x256_S1x128x256_0_0_0 x).symm

/-- The retention block a grid point writes when it is the first of its batch rows. -/
theorem ret_A (c : Dev nD) (t : Fin cfg0.N) (h0 : t.val % 16 = 0) :
    (outsAt0 m c t.val t.isLt).1 = rowArr (retBlk (iblk m c 0 t) (iblk m c 2 t) (iblk m c 3 t) (iblk m c 4 t) (iblk m c 5 t) (iblk m c 8 t)
      (k0_pay1 (F := F))) := by
  rw [outsAt0_A m c t h0]
  dsimp only
  frame_open
  simp (disch := decide) only [↓ View.readCov_skip, ↓ View.readCov_cons_toLoadRect, ↓ View.readCov_fill]
  frame_out
  funext y
  refine View.canon_append_of_piecesOf (rowArr (retBlk (F := F) (iblk m c 0 t) (iblk m c 2 t) (iblk m c 3 t) (iblk m c 4 t) (iblk m c 5 t) (iblk m c 8 t) (k0_pay1 (F := F)))) [] [_, _] ⟨fun x => ?_, fun x => ?_, trivial⟩ y (View.cover_of_tiledL _ ![1, 128, 256] (by sl_kernel_rfl) y)
  · exact (rowArr_emb (retBlk (F := F) (iblk m c 0 t) (iblk m c 2 t) (iblk m c 3 t) (iblk m c 4 t) (iblk m c 5 t) (iblk m c 8 t) (k0_pay1 (F := F))) 1 inb_S2x128x256_S1x128x256_1_0_0 x).symm
  · exact (rowArr_emb (retBlk (F := F) (iblk m c 0 t) (iblk m c 2 t) (iblk m c 3 t) (iblk m c 4 t) (iblk m c 5 t) (iblk m c 8 t) (k0_pay1 (F := F))) 0 inb_S2x128x256_S1x128x256_0_0_0 x).symm

/-- The spatial MLP block a grid point writes, not the first of its batch rows. -/
theorem gm_B (c : Dev nD) (t : Fin cfg0.N) (h0 : ¬ t.val % 16 = 0) :
    (outsAt0 m c t.val t.isLt).2.1 = rowArr (gmBlk (iblk m c 1 t) (iblk m c 9 t) (iblk m c 10 t) (iblk m c 11 t)
     ) := by
  rw [outsAt0_B m c t h0]
  dsimp only
  generalize (outsAt0 m c (t.val - 1) (Nat.lt_of_le_of_lt (Nat.sub_le _ _) t.isLt)).2.2 = acc
  frame_open
  simp (disch := decide) only [↓ View.readCov_skip, ↓ View.readCov_cons_toLoadRect, ↓ View.readCov_fill]
  frame_out
  funext y
  refine View.canon_append_of_piecesOf (rowArr (gmBlk (F := F) (iblk m c 1 t) (iblk m c 9 t) (iblk m c 10 t) (iblk m c 11 t) )) [] [_, _] ⟨fun x => ?_, fun x => ?_, trivial⟩ y (View.cover_of_tiledL _ ![1, 128, 256] (by sl_kernel_rfl) y)
  · exact (rowArr_emb (gmBlk (F := F) (iblk m c 1 t) (iblk m c 9 t) (iblk m c 10 t) (iblk m c 11 t) ) 1 inb_S2x128x256_S1x128x256_1_0_0 x).symm
  · exact (rowArr_emb (gmBlk (F := F) (iblk m c 1 t) (iblk m c 9 t) (iblk m c 10 t) (iblk m c 11 t) ) 0 inb_S2x128x256_S1x128x256_0_0_0 x).symm

/-- The spatial MLP block a grid point writes, the first of its batch rows. -/
theorem gm_A (c : Dev nD) (t : Fin cfg0.N) (h0 : t.val % 16 = 0) :
    (outsAt0 m c t.val t.isLt).2.1 = rowArr (gmBlk (iblk m c 1 t) (iblk m c 9 t) (iblk m c 10 t) (iblk m c 11 t)
     ) := by
  rw [outsAt0_A m c t h0]
  dsimp only
  frame_open
  simp (disch := decide) only [↓ View.readCov_skip, ↓ View.readCov_cons_toLoadRect, ↓ View.readCov_fill]
  frame_out
  funext y
  refine View.canon_append_of_piecesOf (rowArr (gmBlk (F := F) (iblk m c 1 t) (iblk m c 9 t) (iblk m c 10 t) (iblk m c 11 t) )) [] [_, _] ⟨fun x => ?_, fun x => ?_, trivial⟩ y (View.cover_of_tiledL _ ![1, 128, 256] (by sl_kernel_rfl) y)
  · exact (rowArr_emb (gmBlk (F := F) (iblk m c 1 t) (iblk m c 9 t) (iblk m c 10 t) (iblk m c 11 t) ) 1 inb_S2x128x256_S1x128x256_1_0_0 x).symm
  · exact (rowArr_emb (gmBlk (F := F) (iblk m c 1 t) (iblk m c 9 t) (iblk m c 10 t) (iblk m c 11 t) ) 0 inb_S2x128x256_S1x128x256_0_0_0 x).symm

end Cert.KernelIdeal.Mixer

end
-- ==== Proof.Spec.lean ====
module

public import Idealize.ShloMosaic.Lib.Pointwise

/-! The token mixer's mathematics, written over plain functions on the extended reals: rotary rotation, retention with
    its carried state, the head norm, and the chunked spatial gate. No program is mentioned here; both programs are shown
    equal to these functions. -/

@[expose] public section
noncomputable section
namespace Cert.MixSpec
open Idealize.ShloMosaic

/-- The number a counter stands for. -/
def num (n : ℕ) : EReal := FloatOps.sitofp (F := Ideal) .f32 (BitVec.ofNat 32 n)

/-- The logarithm of head `h`'s decay rate `1 - 2^(-5-h)`. -/
def logRate (h : Fin 4) : EReal :=
  Ideal.log1p (-Ideal.pow (Ideal.ofBits .f32 1073741824#32) (Ideal.ofBits .f32 3231711232#32 - num h.val))

/-- The decay from row `j` to row `i` of one chunk: zero when `j` is later than `i`. -/
def decIn (h : Fin 4) (i j : Fin 128) : EReal :=
  if 0 ≤ num i.val - num j.val then Ideal.exp (max (num i.val - num j.val) 0 * logRate h) else 0

/-- The decay of the state a chunk starts with at the chunk's row `i`. -/
def decQ (h : Fin 4) (i : Fin 128) : EReal := Ideal.exp ((num i.val + 1) * logRate h)
/-- The decay from row `i` to the end of its chunk. -/
def decK (h : Fin 4) (i : Fin 128) : EReal := Ideal.exp ((Ideal.ofBits .f32 1123942400#32 - num i.val) * logRate h)
/-- The decay over a whole chunk. -/
def decC (h : Fin 4) : EReal := Ideal.exp (Ideal.ofBits .f32 1124073472#32 * logRate h)

/-- Row `i` of chunk `n` in the sequence. -/
def pos (n : ℕ) (i : Fin 128) : Fin 2048 := ⟨(128 * n + i.val) % 2048, Nat.mod_lt _ (by decide)⟩
/-- The row's place in its chunk. -/
def row (t : Fin 2048) : Fin 128 := ⟨t.val % 128, Nat.mod_lt _ (by decide)⟩

/-- Head `h` of the quarter of a projected row that starts at lane `o`. -/
def headOf (z : Fin 1024 → EReal) (o : ℕ) (ho : o ≤ 768) (h : Fin 4) (d : Fin 64) : EReal :=
  z ⟨o + (64 * h.val + d.val), by omega⟩

/-- The rotary rotation of one head: lane `d` of the first half is turned with lane `d + 32`. -/
def turn (x : Fin 64 → EReal) (cs sn : Fin 32 → EReal) (d : Fin 64) : EReal :=
  if hd : d.val < 32 then x d * cs ⟨d.val, hd⟩ - x ⟨d.val + 32, by omega⟩ * sn ⟨d.val, hd⟩
  else x ⟨d.val - 32, by omega⟩ * sn ⟨d.val - 32, by omega⟩ + x d * cs ⟨d.val - 32, by omega⟩

section Retention
variable (zr : Fin 16 → Fin 2048 → Fin 1024 → EReal) (cs sn : Fin 16 → Fin 2048 → Fin 32 → EReal)

/-- The queries. -/
def q (b : Fin 16) (h : Fin 4) (t : Fin 2048) (d : Fin 64) : EReal := turn (headOf (zr b t) 0 (by decide) h) (cs b t) (sn b t) d
/-- The keys, scaled by `64^(-1/2)`. -/
def k (b : Fin 16) (h : Fin 4) (t : Fin 2048) (d : Fin 64) : EReal :=
  turn (headOf (zr b t) 256 (by decide) h) (cs b t) (sn b t) d * Ideal.ofBits .f32 1040187392#32
/-- The values. -/
def v (b : Fin 16) (h : Fin 4) (t : Fin 2048) (e : Fin 64) : EReal := headOf (zr b t) 512 (by decide) h e

/-- What chunk `n` adds to the state. -/
def kv (b : Fin 16) (h : Fin 4) (n : ℕ) (d e : Fin 64) : EReal :=
  ∑ i : Fin 128, k zr cs sn b h (pos n i) d * decK h i * v zr b h (pos n i) e

/-- The state that chunk `n` starts with. -/
def st (b : Fin 16) (h : Fin 4) : ℕ → Fin 64 → Fin 64 → EReal
  | 0 => fun _ _ => 0
  | n + 1 => fun d e => st b h n d e * decC h + kv zr cs sn b h n d e

/-- The retention output of one row, before its norm. -/
def raw (b : Fin 16) (h : Fin 4) (t : Fin 2048) (e : Fin 64) : EReal :=
  (∑ j : Fin 128, (∑ d : Fin 64, q zr cs sn b h t d * k zr cs sn b h (pos (t.val / 128) j) d) * decIn h (row t) j
      * v zr b h (pos (t.val / 128) j) e)
    + (∑ d : Fin 64, q zr cs sn b h t d * st zr cs sn b h (t.val / 128) d e) * decQ h (row t)

/-- The root-mean-square norm of one head with its gain. -/
def headNorm (x rg : Fin 64 → EReal) (e : Fin 64) : EReal :=
  x e * Ideal.rsqrt (Ideal.div (∑ d : Fin 64, x d * x d) (Ideal.ofBits .f32 1115684864#32)
    + Ideal.ofBits .f32 897988541#32) * rg e

/-- The retention branch: the normed heads, gated. -/
def yRet (rg : Fin 4 → Fin 64 → EReal) (b : Fin 16) (t : Fin 2048) (l : Fin 256) : EReal :=
  headNorm (raw zr cs sn b ⟨l.val / 64, by omega⟩ t) (rg ⟨l.val / 64, by omega⟩) ⟨l.val % 64, by omega⟩
    * (zr b t ⟨768 + l.val, by omega⟩ * Ideal.logistic (zr b t ⟨768 + l.val, by omega⟩))

end Retention

/-- The tanh form of the Gaussian error linear unit. -/
def gelu (x : EReal) : EReal :=
  x * (Ideal.ofBits .f32 1056964608#32 * (1 + Ideal.tanh (Ideal.ofBits .f32 1061962282#32 *
    (x + Ideal.ofBits .f32 1027024659#32 * (x * (x * x))))))

/-- The mean over the 256 lanes. -/
def mean (x : Fin 256 → EReal) : EReal := Ideal.div (∑ l : Fin 256, x l) (Ideal.ofBits .f32 1132462080#32)

/-- The layer norm over 256 lanes with its gain. -/
def layerNorm (x lg : Fin 256 → EReal) (l : Fin 256) : EReal :=
  (x l - mean x) * Ideal.rsqrt (mean (fun l => (x l - mean x) * (x l - mean x)) + Ideal.ofBits .f32 897988541#32) * lg l

section Gate
variable (zg : Fin 16 → Fin 2048 → Fin 512 → EReal) (lg : Fin 256 → EReal)

/-- The gate's normed half. -/
def vn (b : Fin 16) (t : Fin 2048) (l : Fin 256) : EReal :=
  layerNorm (fun l => gelu (zg b t ⟨256 + l.val, by omega⟩)) lg l

/-- The chunked spatial gate: each group's lower-triangular mix of its chunk's rows, with a bias, times the other half. -/
def yGate (w : Fin 4 → Fin 128 → Fin 128 → EReal) (bs : Fin 4 → Fin 128 → EReal) (b : Fin 16) (t : Fin 2048)
    (l : Fin 256) : EReal :=
  gelu (zg b t ⟨l.val, by omega⟩) *
    ((∑ j : Fin 128, (if j.val ≤ t.val % 128 then w ⟨l.val / 64, by omega⟩ (row t) j * vn zg lg b (pos (t.val / 128) j) l else 0))
      + bs ⟨l.val / 64, by omega⟩ (row t))
end Gate

/-- The signed comparison of two row counters of a chunk, as a bit. -/
theorem sge_row : ∀ i j : Fin 128, IntOp.cmpi .sge (BitVec.ofNat 32 i.val) (BitVec.ofNat 32 j.val) = BitVec.ofBool (decide (j.val ≤ i.val)) := by
  decide +kernel

/-- That bit for a row `j` that is not later. -/
theorem sge_pos (i j : Fin 128) (h : j.val ≤ i.val) : IntOp.cmpi .sge (BitVec.ofNat 32 i.val) (BitVec.ofNat 32 j.val) = 1#1 := by
  rw [sge_row, decide_eq_true h]; rfl
/-- That bit for a later row `j`. -/
theorem sge_neg (i j : Fin 128) (h : ¬ j.val ≤ i.val) : IntOp.cmpi .sge (BitVec.ofNat 32 i.val) (BitVec.ofNat 32 j.val) = 0#1 := by
  rw [sge_row, decide_eq_false h]; rfl

end Cert.MixSpec
end
-- ==== Proof.KBlocks.lean ====
module

public import proofs.«01_k».proof.Proof.Vocab
public import proofs.«01_k».proof.Proof.Spec
public import Idealize.ShloMosaic.Lib.Pointwise
public import Idealize.ShloMosaic.Lib.Pipeline.ValueKit

@[expose] public section
set_option maxRecDepth 16384
noncomputable section
namespace Cert.KernelIdeal.Mixer
open Cert.KernelIdeal Cert.KernelIdeal.Gen Idealize.ShloMosaic Idealize.ShloMosaic.TcCoe Idealize.SL.Sem

/-- The bit that tells the first half of a head's lanes. -/
theorem lane_bit : ∀ l : Fin 128, IntOp.cmpi .slt (IntOp.andi (BitVec.ofNat 32 l.val) 63#32) 32#32 = BitVec.ofBool (decide (l.val % 64 < 32)) := by
  decide +kernel
theorem lane_pos (l : ℕ) (hl : l < 128) (h : l % 64 < 32) : IntOp.cmpi .slt (IntOp.andi (BitVec.ofNat 32 l) 63#32) 32#32 = 1#1 := by
  rw [lane_bit ⟨l, hl⟩, decide_eq_true h]; rfl
theorem lane_neg (l : ℕ) (hl : l < 128) (h : ¬ l % 64 < 32) : IntOp.cmpi .slt (IntOp.andi (BitVec.ofNat 32 l) 63#32) 32#32 = 0#1 := by
  rw [lane_bit ⟨l, hl⟩, decide_eq_false h]; rfl

/-- Adding the product with a negated factor is subtracting the product. -/
theorem add_neg_mul (a x s : EReal) : a + (0 - x) * s = a - x * s := by
  rw [zero_sub, EReal.neg_mul]; rfl

theorem select_one (a b : EReal) : Scalar.select (1#1) a b = a := rfl
theorem select_zero (a b : EReal) : Scalar.select (0#1) a b = b := rfl

/-- Two products combined, factor by factor. -/
theorem four (f : EReal → EReal → EReal) {a a' b b' x x' y y' : EReal} (ha : a = a') (hb : b = b') (hx : x = x') (hy : y = y') :
    f (a * b) (x * y) = f (a' * b') (x' * y') := by
  rw [ha, hb, hx, hy]

set_option maxHeartbeats 1000000 in
theorem roped_at (z : Vec Ideal S1x128x256 .f32) (cs sn : Vec Ideal S1x128x128 .f32) (C S : Fin 128 → Fin 32 → EReal)
    (hC : ∀ i l, cs (ix3 0 i l) = C i ⟨l.val % 32, Nat.mod_lt _ (by decide)⟩) (hS : ∀ i l, sn (ix3 0 i l) = S i ⟨l.val % 32, Nat.mod_lt _ (by decide)⟩)
    (h : Fin 4) (i : Fin 128) (d : Fin 64) :
    roped z cs sn (ix2 i ⟨64 * h.val + d.val, by omega⟩) = MixSpec.turn (fun d => z (ix3 0 i ⟨64 * h.val + d.val, by omega⟩)) (C i) (S i) d := by
  pointwise [roped, slab]
  have hz : ∀ a b : Fin 256, a.val = b.val → z (ix3 0 i a) = z (ix3 0 i b) := fun a b e => by rw [Fin.ext e]
  have hcc : ∀ a b : Fin 32, a.val = b.val → C i a = C i b := fun a b e => by rw [Fin.ext e]
  have hss : ∀ a b : Fin 32, a.val = b.val → S i a = S i b := fun a b e => by rw [Fin.ext e]
  simp only [hC, hS]
  unfold MixSpec.turn
  dsimp only
  by_cases hd : d.val < 32
  · simp only [hd, ↓reduceDIte]
    by_cases hl : 64 * h.val + d.val < 128
    · have hb := lane_pos (64 * h.val + d.val) hl (by omega)
      simp only [hl, ↓reduceDIte, hb, select_one]
      refine (add_neg_mul _ _ _).trans (four (· - ·) (hz _ _ ?_) (hcc _ _ ?_) (hz _ _ ?_) (hss _ _ ?_)) <;> dsimp only <;> omega
    · have hb := lane_pos (64 * h.val + d.val - 128) (by omega) (by omega)
      simp only [hl, ↓reduceDIte, hb, select_one]
      refine (add_neg_mul _ _ _).trans (four (· - ·) (hz _ _ ?_) (hcc _ _ ?_) (hz _ _ ?_) (hss _ _ ?_)) <;> dsimp only <;> omega
  · simp only [hd, ↓reduceDIte]
    by_cases hl : 64 * h.val + d.val < 128
    · have hb := lane_neg (64 * h.val + d.val) hl (by omega)
      simp only [hl, ↓reduceDIte, hb, select_zero]
      refine (add_comm _ _).trans (four (· + ·) (hz _ _ ?_) (hss _ _ ?_) (hz _ _ ?_) (hcc _ _ ?_)) <;> dsimp only <;> omega
    · have hb := lane_neg (64 * h.val + d.val - 128) (by omega) (by omega)
      simp only [hl, ↓reduceDIte, hb, select_zero]
      refine (add_comm _ _).trans (four (· + ·) (hz _ _ ?_) (hss _ _ ?_) (hz _ _ ?_) (hcc _ _ ?_)) <;> dsimp only <;> omega

theorem head_at (h : Fin 4) (x : FVec Ideal S128x256 .f32) (i : Fin 128) (d : Fin 64) :
    head h x (ix2 i d) = x (ix2 i ⟨64 * h.val + d.val, by omega⟩) := by
  pointwise [head]

/-! ## The arrays as plain functions, and the host's tables -/
variable (m : (ℓ : Loc nD τ sig) → Buf (Elt Ideal) ℓ) (c : Dev nD)

def zr (b : Fin 16) (t : Fin 2048) (l : Fin 1024) : EReal := m ((c : Thread nD τ).loc main_arg0) (ix3 b t l)
def zg (b : Fin 16) (t : Fin 2048) (l : Fin 512) : EReal := m ((c : Thread nD τ).loc main_arg1) (ix3 b t l)
def cs (b : Fin 16) (t : Fin 2048) (l : Fin 32) : EReal := m ((c : Thread nD τ).loc main_arg2) (ix3 b t l)
def sn (b : Fin 16) (t : Fin 2048) (l : Fin 32) : EReal := m ((c : Thread nD τ).loc main_arg3) (ix3 b t l)
def rg (h : Fin 4) (d : Fin 64) : EReal := m ((c : Thread nD τ).loc main_arg4) (ix3 0 h d)
def lg (l : Fin 256) : EReal := m ((c : Thread nD τ).loc main_arg5) (ix2 0 l)
def ws (h : Fin 4) (i j : Fin 128) : EReal := m ((c : Thread nD τ).loc main_arg6) (ix4 0 h i j)
def bs (h : Fin 4) (i : Fin 128) : EReal := m ((c : Thread nD τ).loc main_arg7) (ix3 0 h i)

theorem V_cos (b : Fin 16) (t : Fin 2048) (l : Fin 128) : V m c main_v2 (ix3 b t l) = cs m c b t ⟨l.val % 32, Nat.mod_lt _ (by decide)⟩ := by
  simp only [V, hostOps0, hostOps0_1, hostOps0_2, List.flatten_cons, List.flatten_nil, List.append_nil, List.cons_append, List.nil_append]
  after_results
  pointwise
  rfl

theorem V_sin (b : Fin 16) (t : Fin 2048) (l : Fin 128) : V m c main_v5 (ix3 b t l) = sn m c b t ⟨l.val % 32, Nat.mod_lt _ (by decide)⟩ := by
  simp only [V, hostOps0, hostOps0_1, hostOps0_2, List.flatten_cons, List.flatten_nil, List.append_nil, List.cons_append, List.nil_append]
  after_results
  pointwise
  rfl

theorem V_decIn (h : Fin 4) (i j : Fin 128) : V m c main_v29 (ix3 h i j) = MixSpec.decIn h i j := by
  simp only [V, hostOps0, hostOps0_1, hostOps0_2, List.flatten_cons, List.flatten_nil, List.append_nil, List.cons_append, List.nil_append]
  after_results
  simp only [StableHlo.TRef.toBuf, StableHlo.TRef.ofBuf, cast_eq, id_eq]
  pointwise
  rfl

theorem V_decQ (h : Fin 4) (i : Fin 128) (e : Fin 64) : V m c main_v51 (ix3 h i e) = MixSpec.decQ h i := by
  simp only [V, hostOps0, hostOps0_1, hostOps0_2, List.flatten_cons, List.flatten_nil, List.append_nil, List.cons_append, List.nil_append]
  after_results
  pointwise
  rfl

theorem V_decK (h : Fin 4) (i : Fin 128) (e : Fin 64) : V m c main_v54 (ix3 h i e) = MixSpec.decK h i := by
  simp only [V, hostOps0, hostOps0_1, hostOps0_2, List.flatten_cons, List.flatten_nil, List.append_nil, List.cons_append, List.nil_append]
  after_results
  pointwise
  rfl

theorem V_decC (h : Fin 4) (d e : Fin 64) : V m c main_v56 (ix3 h d e) = MixSpec.decC h := by
  simp only [V, hostOps0, hostOps0_1, hostOps0_2, List.flatten_cons, List.flatten_nil, List.append_nil, List.cons_append, List.nil_append]
  after_results
  pointwise
  rfl

theorem V_rg (h : Fin 4) (e : Fin 64) : V m c main_v59 (ix3 h 0 e) = rg m c h e := by
  simp only [V, hostOps0, hostOps0_1, hostOps0_2, List.flatten_cons, List.flatten_nil, List.append_nil, List.cons_append, List.nil_append]
  after_results
  pointwise
  rfl

theorem V_lg (l : Fin 256) : V m c main_v62 (ix2 0 l) = lg m c l := by
  simp only [V, hostOps0, hostOps0_1, hostOps0_2, List.flatten_cons, List.flatten_nil, List.append_nil, List.cons_append, List.nil_append]
  after_results
  pointwise
  rfl

theorem V_ws (h : Fin 4) (i j : Fin 128) : V m c main_v64 (ix3 h i j) = ws m c h i j := by
  simp only [V, hostOps0, hostOps0_1, hostOps0_2, List.flatten_cons, List.flatten_nil, List.append_nil, List.cons_append, List.nil_append]
  after_results
  pointwise
  rfl

theorem V_bs (h : Fin 4) (i : Fin 128) (e : Fin 64) : V m c main_v68 (ix3 h i e) = bs m c h i := by
  simp only [V, hostOps0, hostOps0_1, hostOps0_2, List.flatten_cons, List.flatten_nil, List.append_nil, List.cons_append, List.nil_append]
  after_results
  pointwise
  rfl

/-! ## The blocks a grid point reads -/

/-- The batch row that row `bb` of point `n`'s block is. -/
def bat (n : ℕ) (bb : Fin 2) : Fin 16 := ⟨(2 * (n / 16) + bb.val) % 16, Nat.mod_lt _ (by decide)⟩

theorem idxRow : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] :=
  (by decide +kernel : ∀ t : Fin grid0.N, _)
theorem idxFull : ∀ t : Fin cfg0.N, win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0] ∧ win0_10.index t = ![0, 0, 0] ∧ win0_11.index t = ![0, 0, 0] :=
  (by decide +kernel : ∀ t : Fin grid0.N, _)
theorem ptLt (t : Fin cfg0.N) : t.val < 128 := lt_of_lt_of_eq t.isLt N_0

theorem blk0 (t : Fin cfg0.N) (bb : Fin 2) (i : Fin 128) (l : Fin 1024) : iblk m c 0 t (ix3 bb i l) = zr m c (bat t.val bb) (MixSpec.pos (t.val % 16) i) l := by
  have ht := ptLt t
  refine Eq.trans (b := V m c main_arg0 (ix3 (bat t.val bb) (MixSpec.pos (t.val % 16) i) l)) ?_ (V_main_arg0 m c ▸ rfl)
  unfold bat MixSpec.pos
  blk_ext [iblk, idxRow t]

theorem blk1 (t : Fin cfg0.N) (bb : Fin 2) (i : Fin 128) (l : Fin 512) : iblk m c 1 t (ix3 bb i l) = zg m c (bat t.val bb) (MixSpec.pos (t.val % 16) i) l := by
  have ht := ptLt t
  refine Eq.trans (b := V m c main_arg1 (ix3 (bat t.val bb) (MixSpec.pos (t.val % 16) i) l)) ?_ (V_main_arg1 m c ▸ rfl)
  unfold bat MixSpec.pos
  blk_ext [iblk, idxRow t]

theorem blk2 (t : Fin cfg0.N) (bb : Fin 2) (i : Fin 128) (l : Fin 128) : iblk m c 2 t (ix3 bb i l) = cs m c (bat t.val bb) (MixSpec.pos (t.val % 16) i) ⟨l.val % 32, Nat.mod_lt _ (by decide)⟩ := by
  have ht := ptLt t
  refine Eq.trans (b := V m c main_v2 (ix3 (bat t.val bb) (MixSpec.pos (t.val % 16) i) l)) ?_ (V_cos m c _ _ _)
  unfold bat MixSpec.pos
  blk_ext [iblk, idxRow t]

theorem blk3 (t : Fin cfg0.N) (bb : Fin 2) (i : Fin 128) (l : Fin 128) : iblk m c 3 t (ix3 bb i l) = sn m c (bat t.val bb) (MixSpec.pos (t.val % 16) i) ⟨l.val % 32, Nat.mod_lt _ (by decide)⟩ := by
  have ht := ptLt t
  refine Eq.trans (b := V m c main_v5 (ix3 (bat t.val bb) (MixSpec.pos (t.val % 16) i) l)) ?_ (V_sin m c _ _ _)
  unfold bat MixSpec.pos
  blk_ext [iblk, idxRow t]

theorem blk4 (t : Fin cfg0.N) (h : Fin 4) (i j : Fin 128) : iblk m c 4 t (ix3 h i j) = MixSpec.decIn h i j := by
  refine Eq.trans (b := V m c main_v29 (ix3 h i j)) ?_ (V_decIn m c _ _ _)
  blk_ext [iblk, idxFull t]

theorem blk5 (t : Fin cfg0.N) (h : Fin 4) (i : Fin 128) (e : Fin 64) : iblk m c 5 t (ix3 h i e) = MixSpec.decQ h i := by
  refine Eq.trans (b := V m c main_v51 (ix3 h i e)) ?_ (V_decQ m c _ _ _)
  blk_ext [iblk, idxFull t]

theorem blk6 (t : Fin cfg0.N) (h : Fin 4) (i : Fin 128) (e : Fin 64) : iblk m c 6 t (ix3 h i e) = MixSpec.decK h i := by
  refine Eq.trans (b := V m c main_v54 (ix3 h i e)) ?_ (V_decK m c _ _ _)
  blk_ext [iblk, idxFull t]

theorem blk7 (t : Fin cfg0.N) (h : Fin 4) (i e : Fin 64) : iblk m c 7 t (ix3 h i e) = MixSpec.decC h := by
  refine Eq.trans (b := V m c main_v56 (ix3 h i e)) ?_ (V_decC m c _ _ _)
  blk_ext [iblk, idxFull t]

theorem blk8 (t : Fin cfg0.N) (h : Fin 4) (e : Fin 64) : iblk m c 8 t (ix3 h 0 e) = rg m c h e := by
  refine Eq.trans (b := V m c main_v59 (ix3 h 0 e)) ?_ (V_rg m c _ _)
  blk_ext [iblk, idxFull t]

theorem blk9 (t : Fin cfg0.N) (l : Fin 256) : iblk m c 9 t (ix2 0 l) = lg m c l := by
  refine Eq.trans (b := V m c main_v62 (ix2 0 l)) ?_ (V_lg m c _)
  blk_ext [iblk, idxFull t]

theorem blk10 (t : Fin cfg0.N) (h : Fin 4) (i j : Fin 128) : iblk m c 10 t (ix3 h i j) = ws m c h i j := by
  refine Eq.trans (b := V m c main_v64 (ix3 h i j)) ?_ (V_ws m c _ _ _)
  blk_ext [iblk, idxFull t]

theorem blk11 (t : Fin cfg0.N) (h : Fin 4) (i : Fin 128) (e : Fin 64) : iblk m c 11 t (ix3 h i e) = bs m c h i := by
  refine Eq.trans (b := V m c main_v68 (ix3 h i e)) ?_ (V_bs m c _ _ _)
  blk_ext [iblk, idxFull t]
end Cert.KernelIdeal.Mixer
end
-- ==== Proof.KSide.lean ====
module

public import proofs.«01_k».proof.Proof.Block
public import proofs.«01_k».proof.Proof.KBlocks
public import proofs.«01_k».proof.Proof.Gen.KernelIdeal.Value
public import Idealize.ShloMosaic.Lib.Pointwise
public import Idealize.ShloMosaic.Lib.Pipeline.ValueKit

@[expose] public section
set_option maxRecDepth 16384
noncomputable section
namespace Cert.KernelIdeal.Mixer
open Cert.KernelIdeal Cert.KernelIdeal.Gen Cert.KernelIdeal.Value Idealize.ShloMosaic Idealize.ShloMosaic.TcCoe Idealize.SL.Sem
variable (m : (ℓ : Loc nD τ sig) → Buf (Elt Ideal) ℓ) (c : Dev nD)

/-- A lane of 256 is a head and a lane of that head. -/
theorem by_head (f : Fin 4 → Fin 64 → EReal) (l : Fin 256) :
    (if h : l.val < 64 then f 0 ⟨l.val, h⟩ else if h1 : l.val - 64 < 64 then f 1 ⟨l.val - 64, h1⟩
      else if h2 : l.val - 64 - 64 < 64 then f 2 ⟨l.val - 64 - 64, h2⟩ else f 3 ⟨l.val - 64 - 64 - 64, by omega⟩)
      = f ⟨l.val / 64, by omega⟩ ⟨l.val % 64, by omega⟩ := by
  split_ifs with h h1 h2
  · exact congrArg₂ f (Fin.ext (by show 0 = l.val / 64; omega)) (Fin.ext (by show l.val = l.val % 64; omega))
  · exact congrArg₂ f (Fin.ext (by show 1 = l.val / 64; omega)) (Fin.ext (by show l.val - 64 = l.val % 64; omega))
  · exact congrArg₂ f (Fin.ext (by show 2 = l.val / 64; omega)) (Fin.ext (by show l.val - 64 - 64 = l.val % 64; omega))
  · exact congrArg₂ f (Fin.ext (by show 3 = l.val / 64; omega)) (Fin.ext (by show l.val - 64 - 64 - 64 = l.val % 64; omega))

/-- A head of the queries of point `t`'s block. -/
theorem q_at (t : Fin cfg0.N) (bb : Fin 2) (h : Fin 4) (i : Fin 128) (d : Fin 64) :
    head h (roped (part (iblk m c 0 t) bb 0) (row (iblk m c 2 t) bb) (row (iblk m c 3 t) bb)) (ix2 i d)
      = MixSpec.q (zr m c) (cs m c) (sn m c) (bat t.val bb) h (MixSpec.pos (t.val % 16) i) d := by
  rw [head_at, roped_at _ _ _ (fun i => cs m c (bat t.val bb) (MixSpec.pos (t.val % 16) i)) (fun i => sn m c (bat t.val bb) (MixSpec.pos (t.val % 16) i))
    (fun i l => by pointwise [row]; rw [blk2]) (fun i l => by pointwise [row]; rw [blk3])]
  unfold MixSpec.q
  congr 1
  funext d
  pointwise [part]
  rw [blk0]
  exact congrArg _ (Fin.ext (by show 64 * h.val + d.val = 0 + (64 * h.val + d.val); omega))

/-- A head of the keys of point `t`'s block. -/
theorem k_at (t : Fin cfg0.N) (bb : Fin 2) (h : Fin 4) (i : Fin 128) (d : Fin 64) :
    head h (keys (part (iblk m c 0 t) bb 1) (row (iblk m c 2 t) bb) (row (iblk m c 3 t) bb)) (ix2 i d)
      = MixSpec.k (zr m c) (cs m c) (sn m c) (bat t.val bb) h (MixSpec.pos (t.val % 16) i) d := by
  rw [head_at]
  unfold keys
  pointwise
  rw [roped_at _ _ _ (fun i => cs m c (bat t.val bb) (MixSpec.pos (t.val % 16) i)) (fun i => sn m c (bat t.val bb) (MixSpec.pos (t.val % 16) i))
    (fun i l => by pointwise [row]; rw [blk2]) (fun i l => by pointwise [row]; rw [blk3])]
  unfold MixSpec.k
  congr 2
  funext d
  pointwise [part]
  rw [blk0]
  rfl

/-- A head of the values of point `t`'s block. -/
theorem v_at (t : Fin cfg0.N) (bb : Fin 2) (h : Fin 4) (i : Fin 128) (e : Fin 64) :
    head h (shapeCast S128x256 (part (iblk m c 0 t) bb 2) shapeCasts_S1x128x256_S128x256) (ix2 i e)
      = MixSpec.v (zr m c) (bat t.val bb) h (MixSpec.pos (t.val % 16) i) e := by
  rw [head_at]
  pointwise [part]
  rw [blk0]
  rfl

/-- One step of the state, read at an index. -/
theorem stBlk_at (t : Fin cfg0.N) (acc : Vec Ideal S2x4x64x64 .f32) (bb : Fin 2) (h : Fin 4) (d e : Fin 64) :
    stArr (stBlk (iblk m c 0 t) (iblk m c 2 t) (iblk m c 3 t) (iblk m c 6 t) (iblk m c 7 t) acc) (ix4 bb h d e)
      = acc (ix4 bb h d e) * MixSpec.decC h + MixSpec.kv (zr m c) (cs m c) (sn m c) (bat t.val bb) h (t.val % 16) d e := by
  show stBlk (iblk m c 0 t) (iblk m c 2 t) (iblk m c 3 t) (iblk m c 6 t) (iblk m c 7 t) acc bb h (ix4 0 0 d e) = _
  unfold stBlk stNext
  generalize hk : head h (keys (part (iblk m c 0 t) bb 1) (row (iblk m c 2 t) bb) (row (iblk m c 3 t) bb)) = K
  generalize hv : head h (shapeCast S128x256 (part (iblk m c 0 t) bb 2) shapeCasts_S1x128x256_S128x256) = W
  have hkk : ∀ i d, K (ix2 i d) = MixSpec.k (zr m c) (cs m c) (sn m c) (bat t.val bb) h (MixSpec.pos (t.val % 16) i) d := fun i d => by rw [← hk]; exact k_at m c t bb h i d
  have hvv : ∀ i d, W (ix2 i d) = MixSpec.v (zr m c) (bat t.val bb) h (MixSpec.pos (t.val % 16) i) d := fun i d => by rw [← hv]; exact v_at m c t bb h i d
  pointwise [cell, sm, tl]
  simp only [hkk, hvv, blk6, blk7]
  rfl

/-- The state after point `n` is the state that the next chunk starts with. -/
theorem state_at : ∀ (n : ℕ) (hn : n < cfg0.N) (bb : Fin 2) (h : Fin 4) (d e : Fin 64),
    (outsAt0 m c n hn).2.2 (ix4 bb h d e) = MixSpec.st (zr m c) (cs m c) (sn m c) (bat n bb) h (n % 16 + 1) d e := by
  intro n
  induction n with
  | zero =>
    intro hn bb h d e
    refine (congrFun (state_A m c ⟨0, hn⟩ rfl) (ix4 bb h d e)).trans ((stBlk_at m c ⟨0, hn⟩ _ bb h d e).trans ?_)
    refine congrArg₂ (· + ·) (congrArg₂ (· * ·) ?_ rfl) rfl
    pointwise [k0_pay1]
    rfl
  | succ n ih =>
    intro hn bb h d e
    by_cases h0 : (n + 1) % 16 = 0
    · refine (congrFun (state_A m c ⟨n + 1, hn⟩ h0) (ix4 bb h d e)).trans ((stBlk_at m c ⟨n + 1, hn⟩ _ bb h d e).trans ?_)
      rw [h0]
      refine congrArg₂ (· + ·) (congrArg₂ (· * ·) ?_ rfl) (by dsimp only)
      pointwise [k0_pay1]
      rfl
    · refine (congrFun (state_B m c ⟨n + 1, hn⟩ h0) (ix4 bb h d e)).trans ((stBlk_at m c ⟨n + 1, hn⟩ _ bb h d e).trans ?_)
      have hi := ih (Nat.lt_of_succ_lt hn) bb h d e
      have e1 : n % 16 + 1 = (n + 1) % 16 := by omega
      have e2 : bat n bb = bat (n + 1) bb := Fin.ext (by simp only [bat]; omega)
      rw [e1, e2] at hi
      exact congrArg₂ (· + ·) (congrArg₂ (· * ·) hi rfl) rfl

/-- One row of the retention branch's block, given the state the chunk starts with. -/
theorem retBlk_at (t : Fin cfg0.N) (acc : Vec Ideal S2x4x64x64 .f32) (bb : Fin 2)
    (hacc : ∀ h d e, acc (ix4 bb h d e) = MixSpec.st (zr m c) (cs m c) (sn m c) (bat t.val bb) h (t.val % 16) d e)
    (i : Fin 128) (l : Fin 256) :
    rowArr (retBlk (iblk m c 0 t) (iblk m c 2 t) (iblk m c 3 t) (iblk m c 4 t) (iblk m c 5 t) (iblk m c 8 t) acc) (ix3 bb i l)
      = MixSpec.yRet (zr m c) (cs m c) (sn m c) (rg m c) (bat t.val bb) (MixSpec.pos (t.val % 16) i) l := by
  have hraw : ∀ (h : Fin 4) (e : Fin 64), rawOut (head h (roped (part (iblk m c 0 t) bb 0) (row (iblk m c 2 t) bb) (row (iblk m c 3 t) bb)))
      (head h (keys (part (iblk m c 0 t) bb 1) (row (iblk m c 2 t) bb) (row (iblk m c 3 t) bb)))
      (head h (shapeCast S128x256 (part (iblk m c 0 t) bb 2) shapeCasts_S1x128x256_S128x256)) (cell acc bb h) (sq (iblk m c 4 t) h) (tl (iblk m c 5 t) h) (ix2 i e)
      = MixSpec.raw (zr m c) (cs m c) (sn m c) (bat t.val bb) h (MixSpec.pos (t.val % 16) i) e := by
    intro h e
    generalize hq : head h (roped (part (iblk m c 0 t) bb 0) (row (iblk m c 2 t) bb) (row (iblk m c 3 t) bb)) = Q
    generalize hk : head h (keys (part (iblk m c 0 t) bb 1) (row (iblk m c 2 t) bb) (row (iblk m c 3 t) bb)) = K
    generalize hv : head h (shapeCast S128x256 (part (iblk m c 0 t) bb 2) shapeCasts_S1x128x256_S128x256) = W
    have hqq : ∀ i d, Q (ix2 i d) = MixSpec.q (zr m c) (cs m c) (sn m c) (bat t.val bb) h (MixSpec.pos (t.val % 16) i) d := fun i d => by rw [← hq]; exact q_at m c t bb h i d
    have hkk : ∀ i d, K (ix2 i d) = MixSpec.k (zr m c) (cs m c) (sn m c) (bat t.val bb) h (MixSpec.pos (t.val % 16) i) d := fun i d => by rw [← hk]; exact k_at m c t bb h i d
    have hvv : ∀ i d, W (ix2 i d) = MixSpec.v (zr m c) (bat t.val bb) h (MixSpec.pos (t.val % 16) i) d := fun i d => by rw [← hv]; exact v_at m c t bb h i d
    pointwise [rawOut, innerOut, cell, sq, tl]
    simp only [hqq, hkk, hvv, blk4, blk5, hacc]
    unfold MixSpec.raw
    have e1 : (MixSpec.pos (t.val % 16) i).val / 128 = t.val % 16 := by simp only [MixSpec.pos]; omega
    have e2 : MixSpec.row (MixSpec.pos (t.val % 16) i) = i := Fin.ext (by simp only [MixSpec.pos, MixSpec.row]; omega)
    rw [e1, e2]
  have hn : ∀ (h : Fin 4) (e : Fin 64), outBlk (iblk m c 0 t) (iblk m c 2 t) (iblk m c 3 t) (iblk m c 4 t) (iblk m c 5 t) (iblk m c 8 t) acc bb h (ix2 i e)
      = MixSpec.headNorm (MixSpec.raw (zr m c) (cs m c) (sn m c) (bat t.val bb) h (MixSpec.pos (t.val % 16) i)) (rg m c h) e := by
    intro h e
    have hr := hraw h
    unfold outBlk
    generalize rawOut (F := Ideal) _ _ _ _ _ _ = R at hr ⊢
    pointwise [normed, gain]
    simp only [hr, blk8]
    rfl
  show yRet (part (iblk m c 0 t) bb 3) (outBlk (iblk m c 0 t) (iblk m c 2 t) (iblk m c 3 t) (iblk m c 4 t) (iblk m c 5 t) (iblk m c 8 t) acc bb) (ix3 0 i l) = _
  generalize outBlk (iblk m c 0 t) (iblk m c 2 t) (iblk m c 3 t) (iblk m c 4 t) (iblk m c 5 t) (iblk m c 8 t) acc bb = O at hn ⊢
  pointwise [yRet, part]
  simp only [hn, blk0]
  unfold MixSpec.yRet
  refine congrArg₂ (· * ·) ?_ rfl
  exact by_head (fun h => MixSpec.headNorm (MixSpec.raw (zr m c) (cs m c) (sn m c) (bat t.val bb) h (MixSpec.pos (t.val % 16) i)) (rg m c h)) l

/-- One row of the gate's block. -/
theorem gmBlk_at (t : Fin cfg0.N) (bb : Fin 2) (i : Fin 128) (l : Fin 256) :
    rowArr (gmBlk (iblk m c 1 t) (iblk m c 9 t) (iblk m c 10 t) (iblk m c 11 t)) (ix3 bb i l)
      = MixSpec.yGate (zg m c) (lg m c) (ws m c) (bs m c) (bat t.val bb) (MixSpec.pos (t.val % 16) i) l := by
  have hg : ∀ l : Fin 256, gelu (half (iblk m c 1 t) bb 0) (ix2 i l) = MixSpec.gelu (zg m c (bat t.val bb) (MixSpec.pos (t.val % 16) i) ⟨l.val, by omega⟩) := by
    intro l
    pointwise [gelu, k0_pay48, half]
    rw [blk1]
    rfl
  have hg' : ∀ (i : Fin 128) (l : Fin 256), k0_pay49 (half (iblk m c 1 t) bb 1) (ix2 i l)
      = MixSpec.gelu (zg m c (bat t.val bb) (MixSpec.pos (t.val % 16) i) ⟨256 + l.val, by omega⟩) := by
    intro i l
    pointwise [k0_pay49, half]
    rw [blk1]
    rfl
  have hvn : ∀ (i : Fin 128) (l : Fin 256), lnorm (half (iblk m c 1 t) bb 1) (iblk m c 9 t) (ix2 i l)
      = MixSpec.vn (zg m c) (lg m c) (bat t.val bb) (MixSpec.pos (t.val % 16) i) l := by
    intro i l
    have hh := hg'
    pointwise [lnorm, k0_pay51, k0_pay50]
    simp only [hh, blk9]
    rfl
  have hm : ∀ (h : Fin 4) (e : Fin 64), mixed h (sq (iblk m c 10 t) h) (lnorm (half (iblk m c 1 t) bb 1) (iblk m c 9 t)) (tl (iblk m c 11 t) h) (ix2 i e)
      = (∑ j : Fin 128, (if j.val ≤ i.val then ws m c h i j * MixSpec.vn (zg m c) (lg m c) (bat t.val bb) (MixSpec.pos (t.val % 16) j) ⟨64 * h.val + e.val, by omega⟩ else 0))
        + bs m c h i := by
    intro h e
    have hh := hvn
    generalize lnorm (half (iblk m c 1 t) bb 1) (iblk m c 9 t) = L at hh ⊢
    pointwise [mixed, k0_pay2, head, sq, tl]
    simp only [hh, blk10, blk11]
    refine congrArg₂ (· + ·) (Finset.sum_congr rfl fun j _ => ?_) rfl
    by_cases hj : j.val ≤ i.val
    · rw [MixSpec.sge_pos i j hj, if_pos hj]
      rfl
    · rw [MixSpec.sge_neg i j hj, if_neg hj]
      rfl
  show yGm (gelu (half (iblk m c 1 t) bb 0)) (fun h => mixed h (sq (iblk m c 10 t) h) (lnorm (half (iblk m c 1 t) bb 1) (iblk m c 9 t)) (tl (iblk m c 11 t) h)) (ix3 0 i l) = _
  pointwise [yGm]
  simp only [hg, hm]
  have e1 : (MixSpec.pos (t.val % 16) i).val / 128 = t.val % 16 := by simp only [MixSpec.pos]; omega
  have e2 : MixSpec.row (MixSpec.pos (t.val % 16) i) = i := Fin.ext (by simp only [MixSpec.pos, MixSpec.row]; omega)
  have e3 : (MixSpec.pos (t.val % 16) i).val % 128 = i.val := congrArg Fin.val e2
  unfold MixSpec.yGate
  rw [e1, e2, e3]
  refine congrArg₂ (· * ·) rfl ?_
  refine (by_head (fun h e => (∑ j : Fin 128, (if j.val ≤ i.val then ws m c h i j
    * MixSpec.vn (zg m c) (lg m c) (bat t.val bb) (MixSpec.pos (t.val % 16) j) ⟨64 * h.val + e.val, by omega⟩ else 0)) + bs m c h i) l).trans ?_
  have e4 : (⟨64 * (l.val / 64) + l.val % 64, by omega⟩ : Fin 256) = l := Fin.ext (by dsimp only; omega)
  dsimp only
  rw [e4]

/-- The state that a point starts with is the state before its chunk. -/
theorem retAt (n : ℕ) (hn : n < cfg0.N) (bb : Fin 2) (i : Fin 128) (l : Fin 256) :
    (outsAt0 m c n hn).1 (ix3 bb i l)
      = MixSpec.yRet (zr m c) (cs m c) (sn m c) (rg m c) (bat n bb) (MixSpec.pos (n % 16) i) l := by
  by_cases h0 : n % 16 = 0
  · refine (congrFun (ret_A m c ⟨n, hn⟩ h0) (ix3 bb i l)).trans (retBlk_at m c ⟨n, hn⟩ _ bb (fun h d e => ?_) i l)
    dsimp only
    rw [h0]
    pointwise [k0_pay1]
    rfl
  · refine (congrFun (ret_B m c ⟨n, hn⟩ h0) (ix3 bb i l)).trans (retBlk_at m c ⟨n, hn⟩ _ bb (fun h d e => ?_) i l)
    have hi := state_at m c (n - 1) (Nat.lt_of_le_of_lt (Nat.sub_le _ _) hn) bb h d e
    have e1 : (n - 1) % 16 + 1 = n % 16 := by omega
    have e2 : bat (n - 1) bb = bat n bb := Fin.ext (by simp only [bat]; omega)
    rw [e1, e2] at hi
    exact hi

/-- The gate's block of a point. -/
theorem gmAt (n : ℕ) (hn : n < cfg0.N) (bb : Fin 2) (i : Fin 128) (l : Fin 256) :
    (outsAt0 m c n hn).2.1 (ix3 bb i l)
      = MixSpec.yGate (zg m c) (lg m c) (ws m c) (bs m c) (bat n bb) (MixSpec.pos (n % 16) i) l := by
  by_cases h0 : n % 16 = 0
  · exact (congrFun (gm_A m c ⟨n, hn⟩ h0) (ix3 bb i l)).trans (gmBlk_at m c ⟨n, hn⟩ bb i l)
  · exact (congrFun (gm_B m c ⟨n, hn⟩ h0) (ix3 bb i l)).trans (gmBlk_at m c ⟨n, hn⟩ bb i l)

/-- The grid point that writes an entry. -/
theorem pt_at (b : Fin 16) (t : Fin 2048) (l : Fin 256) : pt12Of (ix3 b t l) = 16 * (b.val / 2) + t.val / 128 := by
  show 16 * (b.val / 2 - 0) + 1 * (t.val / 128 - 0) + 1 * (l.val / 256 - 0) = _
  omega

/-- The batch row of an entry, from its point and its row in the block. -/
theorem bat_at (b : Fin 16) (t : Fin 2048) : bat (16 * (b.val / 2) + t.val / 128) ⟨b.val % 2, by omega⟩ = b :=
  Fin.ext (by simp only [bat]; omega)

/-- The token of an entry, from its point and its row in the block. -/
theorem pos_at (b : Fin 16) (t : Fin 2048) :
    MixSpec.pos ((16 * (b.val / 2) + t.val / 128) % 16) ⟨t.val % 128, by omega⟩ = t :=
  Fin.ext (by simp only [MixSpec.pos]; omega)

/-- The kernel's first output is the retention branch. -/
theorem out_ret (b : Fin 16) (t : Fin 2048) (l : Fin 256) :
    G12 m c (ix3 b t l) = MixSpec.yRet (zr m c) (cs m c) (sn m c) (rg m c) b t l := by
  have hN : pt12Of (ix3 b t l) < cfg0.N := by
    rw [pt_at]
    show _ < 128
    omega
  unfold G12
  rw [dif_pos hN, ← outsAt0_sweep m c _ hN]
  have hl : loc12Of (ix3 b t l) = ix3 ⟨b.val % 2, by omega⟩ ⟨t.val % 128, by omega⟩ l := by
    funext a
    fin_cases a
    · rfl
    · rfl
    · exact Fin.ext (Nat.mod_eq_of_lt l.isLt)
  rw [hl, retAt m c _ hN, pt_at, bat_at, pos_at]

/-- The kernel's second output is the gate branch. -/
theorem out_gm (b : Fin 16) (t : Fin 2048) (l : Fin 256) :
    G13 m c (ix3 b t l) = MixSpec.yGate (zg m c) (lg m c) (ws m c) (bs m c) b t l := by
  have hN : pt13Of (ix3 b t l) < cfg0.N := by
    show 16 * (b.val / 2 - 0) + 1 * (t.val / 128 - 0) + 1 * (l.val / 256 - 0) < 128
    omega
  have hp : pt13Of (ix3 b t l) = 16 * (b.val / 2) + t.val / 128 := pt_at b t l
  unfold G13
  rw [dif_pos hN, ← outsAt0_sweep m c _ hN]
  have hl : loc13Of (ix3 b t l) = ix3 ⟨b.val % 2, by omega⟩ ⟨t.val % 128, by omega⟩ l := by
    funext a
    fin_cases a
    · rfl
    · rfl
    · exact Fin.ext (Nat.mod_eq_of_lt l.isLt)
  rw [hl, gmAt m c _ hN, hp, bat_at, pos_at]

end Cert.KernelIdeal.Mixer
end
-- ==== Proof.RefRet.lean ====
module

public import proofs.«01_k».proof.Proof.Spec
public import proofs.«01_k».proof.Proof.Gen.ReferenceIdeal.Read
public import Idealize.ShloMosaic.Lib.Pointwise
public import Idealize.ShloMosaic.Lib.Pipeline.ValueKit
public import Idealize.ShloMosaic.Lib.Tactic.CleanTypes

@[expose] public section
set_option maxRecDepth 16384
noncomputable section

namespace Cert.ReferenceIdeal.Mixer
open Cert.ReferenceIdeal Cert.ReferenceIdeal.Gen Cert.ReferenceIdeal.Read Idealize.ShloMosaic Idealize.ShloMosaic.TcCoe Idealize.SL.Sem
variable (x0 : (⟨S16x2048x1024, .f32⟩ : BufTy).Contents (Elt Ideal)) (x2 x3 : (⟨S16x2048x32, .f32⟩ : BufTy).Contents (Elt Ideal))
  (x4 : (⟨S2x4x64, .f32⟩ : BufTy).Contents (Elt Ideal))

/-- An array of three axes as a plain function. -/
abbrev fn3 {a b c : ℕ} (x : (⟨3, ![a, b, c]⟩ : Shape).Idx → EReal) (i : Fin a) (j : Fin b) (k : Fin c) : EReal := x (ix3 i j k)

theorem q_at (b : Fin 16) (t : Fin 2048) (h : Fin 4) (d : Fin 64) :
    val_main_v25 (F := Ideal) x0 x2 x3 (ix4 b t h d) = MixSpec.q (fn3 x0) (fn3 x2) (fn3 x3) b h t d := by
  pointwise [val_main_v25,val_main_v19,val_main_v24,val_main_v16,val_main_v18,val_main_v21,val_main_v23,val_main_v13,val_main_v14,val_main_v15,val_main_v17,val_main_v20,val_main_v22,val_main_v11,val_main_v12,val_main_v6,val_main_v0]
  unfold MixSpec.q MixSpec.turn MixSpec.headOf
  dsimp only [fn3]
  by_cases hd : d.val < 32
  · simp only [hd, ↓reduceDIte]
    blk_point
  · simp only [hd, ↓reduceDIte]
    blk_point
theorem k_at (b : Fin 16) (t : Fin 2048) (h : Fin 4) (d : Fin 64) :
    val_main_v42 (F := Ideal) x0 x2 x3 (ix4 b t h d) = MixSpec.k (fn3 x0) (fn3 x2) (fn3 x3) b h t d := by
  pointwise [val_main_cst,val_main_v41,val_main_v42,val_main_v40,val_main_v34,val_main_v39,val_main_v31,val_main_v33,val_main_v36,val_main_v38,val_main_v28,val_main_v29,val_main_v30,val_main_v32,val_main_v35,val_main_v37,val_main_v26,val_main_v27,val_main_v7,val_main_v1]
  unfold MixSpec.k MixSpec.turn MixSpec.headOf
  dsimp only [fn3]
  by_cases hd : d.val < 32
  · simp only [hd, ↓reduceDIte]
    blk_point
  · simp only [hd, ↓reduceDIte]
    blk_point
theorem v_at (b : Fin 16) (t : Fin 2048) (h : Fin 4) (d : Fin 64) :
    val_main_v8 (F := Ideal) x0 (ix4 b t h d) = MixSpec.v (fn3 x0) b h t d := by
  pointwise [val_main_v8,val_main_v2]
  unfold MixSpec.v MixSpec.headOf
  dsimp only [fn3]
  blk_point
theorem logRate_at (h : Fin 4) : val_main_v49 (F := Ideal) (ix1 h) = MixSpec.logRate h := by
  pointwise [val_main_cst_0,val_main_cst_1,val_main_v43,val_main_v44,val_main_v45,val_main_v46,val_main_v47,val_main_v48,val_main_v49]
  rfl
theorem decIn_at (h : Fin 4) (i j : Fin 128) : val_main_v66 (F := Ideal) (ix3 h i j) = MixSpec.decIn h i j := by
  pointwise [val_main_call0_v0,val_main_call0_v1,val_main_call0_v2,val_main_cst_2,val_main_cst_3,val_main_cst_4,val_main_v50,val_main_v51,val_main_v52,val_main_v53,val_main_v54,val_main_v55,val_main_v56,val_main_v57,val_main_v58,val_main_v59,val_main_v60,val_main_v61,val_main_v62,val_main_v63,val_main_v64,val_main_v65,val_main_v66]
  rw [logRate_at]
  simp only [id_eq]
  pointwise
  rfl
theorem decQ_at (i : Fin 128) (h : Fin 4) : val_main_v74 (F := Ideal) (ix2 i h) = MixSpec.decQ h i := by
  pointwise [val_main_v50,val_main_cst_5,val_main_v67,val_main_v68,val_main_v69,val_main_v70,val_main_v71,val_main_v72,val_main_v73,val_main_v74]
  rw [logRate_at]
  rfl
theorem decK_at (i : Fin 128) (h : Fin 4) : val_main_v82 (F := Ideal) (ix2 i h) = MixSpec.decK h i := by
  pointwise [val_main_v50,val_main_cst_6,val_main_v75,val_main_v76,val_main_v77,val_main_v78,val_main_v79,val_main_v80,val_main_v81,val_main_v82]
  rw [logRate_at]
  rfl
theorem decC_at (h : Fin 4) : val_main_v85 (F := Ideal) (ix1 h) = MixSpec.decC h := by
  pointwise [val_main_cst_7,val_main_v83,val_main_v84,val_main_v85]
  rw [logRate_at]
  rfl
theorem kv_at (b n : Fin 16) (h : Fin 4) (d e : Fin 64) :
    val_main_v92 (F := Ideal) x0 x2 x3 (ix5 b n h d e) = MixSpec.kv (fn3 x0) (fn3 x2) (fn3 x3) b h n.val d e := by
  pointwise [val_main_v92,val_main_v91,val_main_v90,val_main_v89,val_main_v88,val_main_v87]
  refine Finset.sum_congr rfl fun i _ => ?_
  rw [k_at, v_at, decK_at]
  have e : ∀ h, (⟨n.val * 128 + i.val, h⟩ : Fin 2048) = MixSpec.pos n.val i := fun h => Fin.ext (by simp only [MixSpec.pos]; omega)
  rw [e]

theorem st0_at (b : Fin 16) (h : Fin 4) (d e : Fin 64) :
    val_main_v93 (F := Ideal) (ix4 b h d e) = MixSpec.st (fn3 x0) (fn3 x2) (fn3 x3) b h 0 d e := by
  pointwise [val_main_v93,val_main_cst_8]
  rfl

theorem st1_at (b : Fin 16) (h : Fin 4) (d e : Fin 64) :
    val_main_v99 (F := Ideal) x0 x2 x3 (ix4 b h d e) = MixSpec.st (fn3 x0) (fn3 x2) (fn3 x3) b h 1 d e := by
  pointwise [val_main_v94,val_main_v95,val_main_v96,val_main_v97,val_main_v98,val_main_v99]
  rw [st0_at x0 x2 x3, decC_at, kv_at]
  rfl

theorem st2_at (b : Fin 16) (h : Fin 4) (d e : Fin 64) :
    val_main_v105 (F := Ideal) x0 x2 x3 (ix4 b h d e) = MixSpec.st (fn3 x0) (fn3 x2) (fn3 x3) b h 2 d e := by
  pointwise [val_main_v100,val_main_v101,val_main_v102,val_main_v103,val_main_v104,val_main_v105]
  rw [st1_at x0 x2 x3, decC_at, kv_at]
  rfl

theorem st3_at (b : Fin 16) (h : Fin 4) (d e : Fin 64) :
    val_main_v111 (F := Ideal) x0 x2 x3 (ix4 b h d e) = MixSpec.st (fn3 x0) (fn3 x2) (fn3 x3) b h 3 d e := by
  pointwise [val_main_v106,val_main_v107,val_main_v108,val_main_v109,val_main_v110,val_main_v111]
  rw [st2_at x0 x2 x3, decC_at, kv_at]
  rfl

theorem st4_at (b : Fin 16) (h : Fin 4) (d e : Fin 64) :
    val_main_v117 (F := Ideal) x0 x2 x3 (ix4 b h d e) = MixSpec.st (fn3 x0) (fn3 x2) (fn3 x3) b h 4 d e := by
  pointwise [val_main_v112,val_main_v113,val_main_v114,val_main_v115,val_main_v116,val_main_v117]
  rw [st3_at x0 x2 x3, decC_at, kv_at]
  rfl

theorem st5_at (b : Fin 16) (h : Fin 4) (d e : Fin 64) :
    val_main_v123 (F := Ideal) x0 x2 x3 (ix4 b h d e) = MixSpec.st (fn3 x0) (fn3 x2) (fn3 x3) b h 5 d e := by
  pointwise [val_main_v118,val_main_v119,val_main_v120,val_main_v121,val_main_v122,val_main_v123]
  rw [st4_at x0 x2 x3, decC_at, kv_at]
  rfl

theorem st6_at (b : Fin 16) (h : Fin 4) (d e : Fin 64) :
    val_main_v129 (F := Ideal) x0 x2 x3 (ix4 b h d e) = MixSpec.st (fn3 x0) (fn3 x2) (fn3 x3) b h 6 d e := by
  pointwise [val_main_v124,val_main_v125,val_main_v126,val_main_v127,val_main_v128,val_main_v129]
  rw [st5_at x0 x2 x3, decC_at, kv_at]
  rfl

theorem st7_at (b : Fin 16) (h : Fin 4) (d e : Fin 64) :
    val_main_v135 (F := Ideal) x0 x2 x3 (ix4 b h d e) = MixSpec.st (fn3 x0) (fn3 x2) (fn3 x3) b h 7 d e := by
  pointwise [val_main_v130,val_main_v131,val_main_v132,val_main_v133,val_main_v134,val_main_v135]
  rw [st6_at x0 x2 x3, decC_at, kv_at]
  rfl

theorem st8_at (b : Fin 16) (h : Fin 4) (d e : Fin 64) :
    val_main_v141 (F := Ideal) x0 x2 x3 (ix4 b h d e) = MixSpec.st (fn3 x0) (fn3 x2) (fn3 x3) b h 8 d e := by
  pointwise [val_main_v136,val_main_v137,val_main_v138,val_main_v139,val_main_v140,val_main_v141]
  rw [st7_at x0 x2 x3, decC_at, kv_at]
  rfl

theorem st9_at (b : Fin 16) (h : Fin 4) (d e : Fin 64) :
    val_main_v147 (F := Ideal) x0 x2 x3 (ix4 b h d e) = MixSpec.st (fn3 x0) (fn3 x2) (fn3 x3) b h 9 d e := by
  pointwise [val_main_v142,val_main_v143,val_main_v144,val_main_v145,val_main_v146,val_main_v147]
  rw [st8_at x0 x2 x3, decC_at, kv_at]
  rfl

theorem st10_at (b : Fin 16) (h : Fin 4) (d e : Fin 64) :
    val_main_v153 (F := Ideal) x0 x2 x3 (ix4 b h d e) = MixSpec.st (fn3 x0) (fn3 x2) (fn3 x3) b h 10 d e := by
  pointwise [val_main_v148,val_main_v149,val_main_v150,val_main_v151,val_main_v152,val_main_v153]
  rw [st9_at x0 x2 x3, decC_at, kv_at]
  rfl

theorem st11_at (b : Fin 16) (h : Fin 4) (d e : Fin 64) :
    val_main_v159 (F := Ideal) x0 x2 x3 (ix4 b h d e) = MixSpec.st (fn3 x0) (fn3 x2) (fn3 x3) b h 11 d e := by
  pointwise [val_main_v154,val_main_v155,val_main_v156,val_main_v157,val_main_v158,val_main_v159]
  rw [st10_at x0 x2 x3, decC_at, kv_at]
  rfl

theorem st12_at (b : Fin 16) (h : Fin 4) (d e : Fin 64) :
    val_main_v165 (F := Ideal) x0 x2 x3 (ix4 b h d e) = MixSpec.st (fn3 x0) (fn3 x2) (fn3 x3) b h 12 d e := by
  pointwise [val_main_v160,val_main_v161,val_main_v162,val_main_v163,val_main_v164,val_main_v165]
  rw [st11_at x0 x2 x3, decC_at, kv_at]
  rfl

theorem st13_at (b : Fin 16) (h : Fin 4) (d e : Fin 64) :
    val_main_v171 (F := Ideal) x0 x2 x3 (ix4 b h d e) = MixSpec.st (fn3 x0) (fn3 x2) (fn3 x3) b h 13 d e := by
  pointwise [val_main_v166,val_main_v167,val_main_v168,val_main_v169,val_main_v170,val_main_v171]
  rw [st12_at x0 x2 x3, decC_at, kv_at]
  rfl

theorem st14_at (b : Fin 16) (h : Fin 4) (d e : Fin 64) :
    val_main_v177 (F := Ideal) x0 x2 x3 (ix4 b h d e) = MixSpec.st (fn3 x0) (fn3 x2) (fn3 x3) b h 14 d e := by
  pointwise [val_main_v172,val_main_v173,val_main_v174,val_main_v175,val_main_v176,val_main_v177]
  rw [st13_at x0 x2 x3, decC_at, kv_at]
  rfl

theorem st15_at (b : Fin 16) (h : Fin 4) (d e : Fin 64) :
    val_main_v183 (F := Ideal) x0 x2 x3 (ix4 b h d e) = MixSpec.st (fn3 x0) (fn3 x2) (fn3 x3) b h 15 d e := by
  pointwise [val_main_v178,val_main_v179,val_main_v180,val_main_v181,val_main_v182,val_main_v183]
  rw [st14_at x0 x2 x3, decC_at, kv_at]
  rfl

end Cert.ReferenceIdeal.Mixer
end
-- ==== Proof.RefOut.lean ====
module

public import proofs.«01_k».proof.Proof.RefRet

@[expose] public section
set_option maxRecDepth 16384
noncomputable section

namespace Cert.ReferenceIdeal.Mixer
open Cert.ReferenceIdeal Cert.ReferenceIdeal.Gen Cert.ReferenceIdeal.Read Idealize.ShloMosaic Idealize.ShloMosaic.TcCoe Idealize.SL.Sem
variable (x0 : (⟨S16x2048x1024, .f32⟩ : BufTy).Contents (Elt Ideal)) (x2 x3 : (⟨S16x2048x32, .f32⟩ : BufTy).Contents (Elt Ideal))
  (x4 : (⟨S2x4x64, .f32⟩ : BufTy).Contents (Elt Ideal))
  (x1 : (⟨S16x2048x512, .f32⟩ : BufTy).Contents (Elt Ideal)) (x5 : (⟨S2x256, .f32⟩ : BufTy).Contents (Elt Ideal))
  (x6 : (⟨S2x4x128x128, .f32⟩ : BufTy).Contents (Elt Ideal)) (x7 : (⟨S2x4x128, .f32⟩ : BufTy).Contents (Elt Ideal))

/-- The sixteen chunk states, each under its unit axis. -/
def slabs : Fin 16 → (S16x1x4x64x64.Idx → Elt Ideal .f32) :=
  ![val_main_v190 (F := Ideal), val_main_v191 (F := Ideal) x0 x2 x3, val_main_v192 (F := Ideal) x0 x2 x3, val_main_v193 (F := Ideal) x0 x2 x3, val_main_v194 (F := Ideal) x0 x2 x3, val_main_v195 (F := Ideal) x0 x2 x3, val_main_v196 (F := Ideal) x0 x2 x3, val_main_v197 (F := Ideal) x0 x2 x3, val_main_v198 (F := Ideal) x0 x2 x3, val_main_v199 (F := Ideal) x0 x2 x3, val_main_v200 (F := Ideal) x0 x2 x3, val_main_v201 (F := Ideal) x0 x2 x3, val_main_v202 (F := Ideal) x0 x2 x3, val_main_v203 (F := Ideal) x0 x2 x3, val_main_v204 (F := Ideal) x0 x2 x3, val_main_v205 (F := Ideal) x0 x2 x3]

theorem slab_at (b n : Fin 16) (h : Fin 4) (d e : Fin 64) :
    slabs x0 x2 x3 n (ix5 b 0 h d e) = MixSpec.st (fn3 x0) (fn3 x2) (fn3 x3) b h n.val d e := by
  fin_cases n
  · show val_main_v190 (F := Ideal)  (ix5 b 0 h d e) = _
    pointwise [val_main_v190]
    exact st0_at x0 x2 x3 b h d e
  · show val_main_v191 (F := Ideal) x0 x2 x3 (ix5 b 0 h d e) = _
    pointwise [val_main_v191]
    exact st1_at x0 x2 x3 b h d e
  · show val_main_v192 (F := Ideal) x0 x2 x3 (ix5 b 0 h d e) = _
    pointwise [val_main_v192]
    exact st2_at x0 x2 x3 b h d e
  · show val_main_v193 (F := Ideal) x0 x2 x3 (ix5 b 0 h d e) = _
    pointwise [val_main_v193]
    exact st3_at x0 x2 x3 b h d e
  · show val_main_v194 (F := Ideal) x0 x2 x3 (ix5 b 0 h d e) = _
    pointwise [val_main_v194]
    exact st4_at x0 x2 x3 b h d e
  · show val_main_v195 (F := Ideal) x0 x2 x3 (ix5 b 0 h d e) = _
    pointwise [val_main_v195]
    exact st5_at x0 x2 x3 b h d e
  · show val_main_v196 (F := Ideal) x0 x2 x3 (ix5 b 0 h d e) = _
    pointwise [val_main_v196]
    exact st6_at x0 x2 x3 b h d e
  · show val_main_v197 (F := Ideal) x0 x2 x3 (ix5 b 0 h d e) = _
    pointwise [val_main_v197]
    exact st7_at x0 x2 x3 b h d e
  · show val_main_v198 (F := Ideal) x0 x2 x3 (ix5 b 0 h d e) = _
    pointwise [val_main_v198]
    exact st8_at x0 x2 x3 b h d e
  · show val_main_v199 (F := Ideal) x0 x2 x3 (ix5 b 0 h d e) = _
    pointwise [val_main_v199]
    exact st9_at x0 x2 x3 b h d e
  · show val_main_v200 (F := Ideal) x0 x2 x3 (ix5 b 0 h d e) = _
    pointwise [val_main_v200]
    exact st10_at x0 x2 x3 b h d e
  · show val_main_v201 (F := Ideal) x0 x2 x3 (ix5 b 0 h d e) = _
    pointwise [val_main_v201]
    exact st11_at x0 x2 x3 b h d e
  · show val_main_v202 (F := Ideal) x0 x2 x3 (ix5 b 0 h d e) = _
    pointwise [val_main_v202]
    exact st12_at x0 x2 x3 b h d e
  · show val_main_v203 (F := Ideal) x0 x2 x3 (ix5 b 0 h d e) = _
    pointwise [val_main_v203]
    exact st13_at x0 x2 x3 b h d e
  · show val_main_v204 (F := Ideal) x0 x2 x3 (ix5 b 0 h d e) = _
    pointwise [val_main_v204]
    exact st14_at x0 x2 x3 b h d e
  · show val_main_v205 (F := Ideal) x0 x2 x3 (ix5 b 0 h d e) = _
    pointwise [val_main_v205]
    exact st15_at x0 x2 x3 b h d e

theorem stack_at (b n : Fin 16) (h : Fin 4) (d e : Fin 64) :
    val_main_v206 (F := Ideal) x0 x2 x3 (ix5 b n h d e) = MixSpec.st (fn3 x0) (fn3 x2) (fn3 x3) b h n.val d e := by
  refine Eq.trans ?_ (slab_at x0 x2 x3 b n h d e)
  exact concatenate_ofFn_unit_apply (t := S16x16x4x64x64) (s₁ := S16x1x4x64x64) 1 (slabs x0 x2 x3) _ rfl rfl (ix5 b n h d e) n rfl (ix5 b 0 h d e)
    (fun a ha => by
      match a with
      | ⟨0, _⟩ => rfl
      | ⟨1, _⟩ => exact absurd rfl ha
      | ⟨2, _⟩ => rfl
      | ⟨3, _⟩ => rfl
      | ⟨4, _⟩ => rfl)
theorem raw_at (b : Fin 16) (t : Fin 2048) (h : Fin 4) (e : Fin 64) :
    val_main_v219 (F := Ideal) x0 x2 x3 (ix4 b t h e) = MixSpec.raw (fn3 x0) (fn3 x2) (fn3 x3) b h t e := by
  pointwise [val_main_v207,val_main_v208,val_main_v209,val_main_v210,val_main_v211,val_main_v212,val_main_v213,val_main_v214,val_main_v215,val_main_v216,val_main_v217,val_main_v218,val_main_v219,val_main_v86,val_main_v87,val_main_v88]
  simp only [q_at, k_at, v_at, decIn_at, decQ_at, stack_at]
  have hp : ∀ (j : Fin 128) (h : t.val / 128 * 128 + j.val < 2048), (⟨t.val / 128 * 128 + j.val, h⟩ : Fin 2048) = MixSpec.pos (t.val / 128) j :=
    fun j h => Fin.ext (by simp only [MixSpec.pos]; omega)
  simp only [hp]
  exact congrArg₂ (· + ·) (Finset.sum_congr rfl fun j _ => mul_comm _ _)
    (congrArg₂ (· * ·) (Finset.sum_congr rfl fun j _ => mul_comm _ _) rfl)
theorem yRet_at (b : Fin 16) (t : Fin 2048) (l : Fin 256) :
    val_main_v302 (F := Ideal) x0 x2 x3 x4 (ix3 b t l) = MixSpec.yRet (fn3 x0) (fn3 x2) (fn3 x3) (fun h e => x4 (ix3 0 h e)) b t l := by
  pointwise [val_main_call1_v0,val_main_call1_v1,val_main_call1_v2,val_main_call1_v3,val_main_call1_v4,val_main_call1_v5,val_main_call1_cst,val_main_call1_cst_0,val_main_cst_9,val_main_cst_10,val_main_cst_11,val_main_v302,val_main_v220,val_main_v221,val_main_v222,val_main_v223,val_main_v224,val_main_v225,val_main_v226,val_main_v227,val_main_v228,val_main_v229,val_main_v230,val_main_v231,val_main_v232,val_main_v233,val_main_v234,val_main_v235,val_main_v3,val_main_v9,val_main_v10]
  simp only [raw_at]
  rfl
theorem gelu_at (b : Fin 16) (t : Fin 2048) (l : Fin 256) :
    val_main_v254 (F := Ideal) x1 (ix3 b t l) = MixSpec.gelu (fn3 x1 b t ⟨l.val, by omega⟩) := by
  pointwise [val_main_cst_12,val_main_cst_13,val_main_cst_14,val_main_cst_15,val_main_v4,val_main_v242,val_main_v243,val_main_v244,val_main_v245,val_main_v246,val_main_v247,val_main_v248,val_main_v249,val_main_v250,val_main_v251,val_main_v252,val_main_v253,val_main_v254]
  unfold MixSpec.gelu
  dsimp only [fn3]
  rw [mul_comm (x1 (ix3 b t ⟨l.val, by omega⟩) * x1 (ix3 b t ⟨l.val, by omega⟩))]
theorem gelu_at' (b : Fin 16) (t : Fin 2048) (l : Fin 256) :
    val_main_v267 (F := Ideal) x1 (ix3 b t l) = MixSpec.gelu (fn3 x1 b t ⟨256 + l.val, by omega⟩) := by
  pointwise [val_main_cst_16,val_main_cst_17,val_main_cst_18,val_main_cst_19,val_main_v5,val_main_v255,val_main_v256,val_main_v257,val_main_v258,val_main_v259,val_main_v260,val_main_v261,val_main_v262,val_main_v263,val_main_v264,val_main_v265,val_main_v266,val_main_v267]
  unfold MixSpec.gelu
  dsimp only [fn3]
  rw [mul_comm (x1 (ix3 b t ⟨256 + l.val, by omega⟩) * x1 (ix3 b t ⟨256 + l.val, by omega⟩))]
theorem vn_at (b : Fin 16) (t : Fin 2048) (l : Fin 256) :
    val_main_v288 (F := Ideal) x1 x5 (ix3 b t l) = MixSpec.vn (fn3 x1) (fun l => x5 (ix2 0 l)) b t l := by
  pointwise [val_main_cst_20,val_main_cst_21,val_main_cst_22,val_main_cst_23,val_main_cst_24,val_main_v268,val_main_v269,val_main_v270,val_main_v271,val_main_v272,val_main_v273,val_main_v274,val_main_v275,val_main_v276,val_main_v277,val_main_v278,val_main_v279,val_main_v280,val_main_v281,val_main_v282,val_main_v283,val_main_v284,val_main_v285,val_main_v286,val_main_v287,val_main_v288,val_main_v236,val_main_v237]
  simp only [gelu_at']
  rfl
theorem yGate_at (b : Fin 16) (t : Fin 2048) (l : Fin 256) :
    val_main_v303 (F := Ideal) x1 x5 x6 x7 (ix3 b t l)
      = MixSpec.yGate (fn3 x1) (fun l => x5 (ix2 0 l)) (fun h i j => x6 (ix4 0 h i j)) (fun h i => x7 (ix3 0 h i)) b t l := by
  pointwise [val_main_c,val_main_call2_v0,val_main_call2_v1,val_main_call2_v2,val_main_call2_v3,val_main_call2_v4,val_main_call2_v5,val_main_call2_c,val_main_call2_c_0,val_main_call3_v0,val_main_call3_v1,val_main_call3_v2,val_main_cst_25,val_main_v238,val_main_v239,val_main_v240,val_main_v241,val_main_v289,val_main_v290,val_main_v291,val_main_v292,val_main_v293,val_main_v294,val_main_v295,val_main_v296,val_main_v297,val_main_v298,val_main_v299,val_main_v300,val_main_v301,val_main_v303]
  simp only [gelu_at, vn_at]
  simp only [id_eq]
  pointwise
  have hp : ∀ (j : Fin 128) (h : t.val / 128 * 128 + j.val < 2048), (⟨t.val / 128 * 128 + j.val, h⟩ : Fin 2048) = MixSpec.pos (t.val / 128) j :=
    fun j h => Fin.ext (by simp only [MixSpec.pos]; omega)
  simp only [hp]
  unfold MixSpec.yGate
  refine congrArg₂ (· * ·) rfl (congrArg₂ (· + ·) (Finset.sum_congr rfl fun j _ => ?_) rfl)
  simp only [MixSpec.row]
  rw [show IntOp.addi (BitVec.ofNat 32 (t.val % 128)) 0#32 = BitVec.ofNat 32 (t.val % 128) from BitVec.add_zero _]
  by_cases hj : j.val ≤ t.val % 128
  · rw [MixSpec.sge_pos ⟨t.val % 128, by omega⟩ j hj, if_pos hj]
    exact mul_comm _ _
  · rw [MixSpec.sge_neg ⟨t.val % 128, by omega⟩ j hj, if_neg hj]
    rfl

end Cert.ReferenceIdeal.Mixer
end
-- ==== Proof.MixClaim.lean ====
module

public import proofs.«01_k».proof.Defs
public import proofs.«01_k».proof.Proof.KSide
public import proofs.«01_k».proof.Proof.RefOut
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section
set_option maxRecDepth 16384
noncomputable section

/-! The claims about the mixer call: its run, its exact reading's run, the reference's run, and their equality. -/

namespace Cert.MixClaim
open Idealize.ShloMosaic Idealize.ShloMosaic.TcCoe Idealize.SL.Sem

/-- The reference runs, keeps its arguments, and declares no semaphore. -/
theorem frame_r : Cert.quiescent_ReferenceIdeal (hReferenceIdeal := Cert.ReferenceIdeal.Gen.facts) := by
  intro m ρ _
  exact (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Over one set of arguments the reference's first result is the kernel's. -/
theorem ret_eq (m : (ℓ : Loc Cert.KernelIdeal.nD Cert.KernelIdeal.τ Cert.KernelIdeal.sig) → Buf (Elt Ideal) ℓ) (c : Dev Cert.KernelIdeal.nD) :
    Cert.ReferenceIdeal.Read.val_main_v302 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) = Cert.KernelIdeal.Value.G12 m c :=
  funext fun i => by
    obtain ⟨b, t, l, rfl⟩ : ∃ (b : Fin 16) (t : Fin 2048) (l : Fin 256), i = ix3 b t l :=
      ⟨i 0, i 1, i 2, funext fun a => by fin_cases a <;> rfl⟩
    exact (Cert.ReferenceIdeal.Mixer.yRet_at _ _ _ _ b t l).trans (Cert.KernelIdeal.Mixer.out_ret m c b t l).symm

/-- Over one set of arguments the reference's second result is the kernel's. -/
theorem gate_eq (m : (ℓ : Loc Cert.KernelIdeal.nD Cert.KernelIdeal.τ Cert.KernelIdeal.sig) → Buf (Elt Ideal) ℓ) (c : Dev Cert.KernelIdeal.nD) :
    Cert.ReferenceIdeal.Read.val_main_v303 (F := Ideal) (m ((c : Thread Cert.KernelIdeal.nD Cert.KernelIdeal.τ).loc Cert.KernelIdeal.main_arg1))
      (m ((c : Thread Cert.KernelIdeal.nD Cert.KernelIdeal.τ).loc Cert.KernelIdeal.main_arg5)) (m ((c : Thread Cert.KernelIdeal.nD Cert.KernelIdeal.τ).loc Cert.KernelIdeal.main_arg6))
      (m ((c : Thread Cert.KernelIdeal.nD Cert.KernelIdeal.τ).loc Cert.KernelIdeal.main_arg7)) = Cert.KernelIdeal.Value.G13 m c :=
  funext fun i => by
    obtain ⟨b, t, l, rfl⟩ : ∃ (b : Fin 16) (t : Fin 2048) (l : Fin 256), i = ix3 b t l :=
      ⟨i 0, i 1, i 2, funext fun a => by fin_cases a <;> rfl⟩
    exact (Cert.ReferenceIdeal.Mixer.yGate_at _ _ _ _ b t l).trans (Cert.KernelIdeal.Mixer.out_gm m c b t l).symm

/-- From equal arguments the exact kernel and the reference both run and end with equal results. -/
theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => Cert.KernelIdeal.Value.G12 m c, fun c => Cert.KernelIdeal.Value.G13 m c, Cert.KernelIdeal.Value.run (F := Ideal) m ρ,
    (θ_run Cert.ReferenceIdeal.defs _ _).mono (fun r h c => ⟨?_, ?_, (h c).2.2⟩) (Cert.ReferenceIdeal.Value.run (F := Ideal) m' ρ')⟩
  · refine ((h c).1.trans (Cert.ReferenceIdeal.Read.val_main_v302_eq (F := Ideal) _)).trans ?_
    obtain ⟨h0, h1, h2, h3, h4, h5, h6, h7⟩ := hag c
    refine Eq.trans ?_ (ret_eq m c)
    rw [← h0, ← h2, ← h3, ← h4]
  · refine ((h c).2.1.trans (Cert.ReferenceIdeal.Read.val_main_v303_eq (F := Ideal) _)).trans ?_
    obtain ⟨h0, h1, h2, h3, h4, h5, h6, h7⟩ := hag c
    refine Eq.trans ?_ (gate_eq m c)
    rw [← h1, ← h5, ← h6, ← h7]

end Cert.MixClaim

end
-- ==== Proof.MoeSpec.lean ====
module

public import Idealize.ShloMosaic.Lib.Pointwise

@[expose] public section

set_option maxRecDepth 16384

/-! The routing words of the grouped expert call: where each group's run of rows ends, which group a tile of rows belongs to,
and how many tiles hold rows. -/

noncomputable section

namespace Cert.MoeSpec

open Idealize.ShloMosaic

/-- A sum of four words, as words add. -/
def sum4 (f : Fin 4 → BitVec 32) : BitVec 32 := Finset.fold IntOp.addi (0#32) f Finset.univ

theorem sum4_eq (f : Fin 4 → BitVec 32) : sum4 f = f 0 + (f 1 + (f 2 + (f 3 + 0#32))) := rfl

/-- Where group `g`'s run of rows ends: the lengths of the runs up to its own. -/
def fin (s : Fin 4 → BitVec 32) (g : Fin 4) : BitVec 32 :=
  sum4 fun j => Scalar.select (IntOp.cmpi .sle (BitVec.ofNat 32 j.val) (BitVec.ofNat 32 g.val)) (s j) 0#32

/-- The start of a run and its length make its end. -/
theorem fin_eq (s : Fin 4 → BitVec 32) (g : Fin 4) :
    IntOp.addi (sum4 fun j => Scalar.select (IntOp.cmpi .sgt (BitVec.ofNat 32 g.val) (BitVec.ofNat 32 j.val)) (s j) 0#32) (s g) = fin s g := by
  unfold fin
  rw [sum4_eq, sum4_eq]
  fin_cases g <;> simp [Scalar.select, IntOp.cmpi, IntOp.addi, BitVec.slt, BitVec.sle] <;> ac_rfl

/-- The group of tile `k`: how many runs end at its first row or before it. -/
def grp (s : Fin 4 → BitVec 32) (k : ℕ) : BitVec 32 :=
  IntOp.minsi (sum4 fun g => BitVec.setWidth 32 (IntOp.cmpi .sle (fin s g) (IntOp.muli (BitVec.ofNat 32 k) 1024#32))) 3#32

theorem grp_le (s : Fin 4 → BitVec 32) (k : ℕ) : (grp s k).toNat ≤ 3 := by
  have h : ∀ a b c d : BitVec 1, (IntOp.minsi (a.setWidth 32 + (b.setWidth 32 + (c.setWidth 32 + (d.setWidth 32 + 0#32)))) 3#32).toNat ≤ 3 := by
    decide
  unfold grp
  rw [sum4_eq]
  exact h _ _ _ _

/-- A group as one of the four. -/
def grpF (s : Fin 4 → BitVec 32) (k : ℕ) : Fin 4 := ⟨(grp s k).toNat, Nat.lt_succ_of_le (grp_le s k)⟩

theorem grp_eq (s : Fin 4 → BitVec 32) (k : ℕ) : grp s k = BitVec.ofNat 32 (grpF s k).val := by
  unfold grpF
  simp

/-- The sign of a word: -1, 0 or 1. -/
def sgn (x : BitVec 32) : BitVec 32 := if x = 0 then 0 else if x.msb = true then -1 else 1

/-- How many tiles hold rows: the rows of all the runs, by tiles, rounded down. -/
def used (s : Fin 4 → BitVec 32) : BitVec 32 :=
  Scalar.select
    (IntOp.andi
      (IntOp.cmpi .ne
        (sgn (sum4 s)) (sgn 1024#32))
      (IntOp.cmpi .ne (IntOp.remsi ArithUnit.host (sum4 s) 1024#32) 0#32))
    (IntOp.subi (IntOp.divsi ArithUnit.host (sum4 s) 1024#32) 1#32)
    (IntOp.divsi ArithUnit.host (sum4 s) 1024#32)

/-- Whether tile `k` holds rows. -/
def live (s : Fin 4 → BitVec 32) (k : ℕ) : Prop := IntOp.cmpi .slt (BitVec.ofNat 32 k) (used s) = 1#1

instance (s : Fin 4 → BitVec 32) (k : ℕ) : Decidable (live s k) := inferInstanceAs (Decidable (_ = _))

/-- The expert whose weights step `u` of tile `k` holds. -/
def xword (s : Fin 4 → BitVec 32) (k u : ℕ) : BitVec 32 :=
  IntOp.addi (IntOp.muli (grp s k) 4#32) (Scalar.select (IntOp.cmpi .slt (BitVec.ofNat 32 k) (used s)) (BitVec.ofNat 32 u) 3#32)

theorem xword_toNat (s : Fin 4 → BitVec 32) (k : ℕ) (u : Fin 4) :
    (xword s k u.val).toNat = 4 * (grpF s k).val + if live s k then u.val else 3 := by
  unfold xword
  rw [grp_eq]
  have h : ∀ (b : BitVec 1) (g u : Fin 4), (IntOp.addi (IntOp.muli (BitVec.ofNat 32 g.val) 4#32) (Scalar.select b (BitVec.ofNat 32 u.val) 3#32)).toNat
      = 4 * g.val + if b = 1#1 then u.val else 3 := by decide
  exact h _ _ _

/-- The expert of step `u` of tile `k`, as one of the sixteen. -/
def xpt (s : Fin 4 → BitVec 32) (k : ℕ) (u : Fin 4) : Fin 16 := ⟨4 * (grpF s k).val + u.val, by have := (grpF s k).isLt; omega⟩

theorem xword_lt (s : Fin 4 → BitVec 32) (k : ℕ) (u : Fin 4) : (xword s k u.val).toNat < 16 := by
  rw [xword_toNat]
  have := (grpF s k).isLt
  split <;> omega

theorem xword_live (s : Fin 4 → BitVec 32) (k : ℕ) (u : Fin 4) (h : live s k) : (xword s k u.val).toNat = (xpt s k u).val := by
  rw [xword_toNat, if_pos h]
  rfl

/-! ## The values -/

/-- An expert's hidden layer at one row: the gated product of the two projections. -/
def act (x : Fin 1024 → EReal) (wg wu : Fin 1024 → Fin 512 → EReal) (f : Fin 512) : EReal :=
  (∑ k, x k * wg k f) * Ideal.logistic (∑ k, x k * wg k f) * ∑ k, x k * wu k f

/-- What an expert adds to one element of one row, weighted by the row's gate. -/
def part (g : EReal) (x : Fin 1024 → EReal) (wg wu : Fin 1024 → Fin 512 → EReal) (wd : Fin 512 → EReal) : EReal :=
  ∑ f, g * act x wg wu f * wd f

theorem part_zero (x : Fin 1024 → EReal) (wg wu : Fin 1024 → Fin 512 → EReal) (wd : Fin 512 → EReal) : part 0 x wg wu wd = 0 :=
  Finset.sum_eq_zero fun f _ => by rw [zero_mul, zero_mul]

/-- The one lane that a comparison with its number picks. -/
theorem pick (u : Fin 4) (g : Fin 128 → EReal) :
    ∑ l : Fin 128, Scalar.select (IntOp.cmpi .eq (BitVec.ofNat 32 l.val) (BitVec.ofNat 32 u.val)) (g l) 0 = g ⟨u.val, by omega⟩ := by
  have h : ∀ (l : Fin 128) (u : Fin 4), IntOp.cmpi .eq (BitVec.ofNat 32 l.val) (BitVec.ofNat 32 u.val) = BitVec.ofBool (decide (l.val = u.val)) := by decide +kernel
  refine (Finset.sum_eq_single (⟨u.val, by omega⟩ : Fin 128) (fun l _ hl => ?_) fun hn => absurd (Finset.mem_univ _) hn).trans ?_
  · rw [h, decide_eq_false (fun e => hl (Fin.ext e))]; rfl
  · rw [h, decide_eq_true rfl]; rfl

/-- A row's gate for expert `e`: kept where the row's tile holds rows of that expert's group. -/
def gate (s : Fin 4 → BitVec 32) (k : ℕ) (e : Fin 16) (v : EReal) : EReal :=
  Scalar.select (IntOp.andi (IntOp.cmpi .eq (grp s k) (BitVec.ofNat 32 (e.val / 4))) (IntOp.cmpi .slt (BitVec.ofNat 32 k) (used s))) v 0

theorem gate_pos (s : Fin 4 → BitVec 32) (k : ℕ) (u : Fin 4) (v : EReal) (h : live s k) : gate s k (xpt s k u) v = v := by
  have hd : (xpt s k u).val / 4 = (grpF s k).val := by show (4 * (grpF s k).val + u.val) / 4 = _; omega
  have hw : ∀ g : Fin 4, IntOp.andi (IntOp.cmpi .eq (BitVec.ofNat 32 g.val) (BitVec.ofNat 32 g.val)) (1#1) = 1#1 := by decide
  unfold gate
  rw [hd, grp_eq, show IntOp.cmpi .slt (BitVec.ofNat 32 k) (used s) = 1#1 from h, hw]
  rfl

theorem gate_other (s : Fin 4 → BitVec 32) (k : ℕ) (e : Fin 16) (v : EReal) (h : e.val / 4 ≠ (grpF s k).val) : gate s k e v = 0 := by
  have hw : ∀ (g : Fin 4) (e : Fin 16) (b : BitVec 1), e.val / 4 ≠ g.val → IntOp.andi (IntOp.cmpi .eq (BitVec.ofNat 32 g.val) (BitVec.ofNat 32 (e.val / 4))) b = 0#1 := by decide
  unfold gate
  rw [grp_eq, hw _ _ _ h]
  rfl

theorem gate_dead (s : Fin 4 → BitVec 32) (k : ℕ) (e : Fin 16) (v : EReal) (h : ¬ live s k) : gate s k e v = 0 := by
  have hb : ∀ b : BitVec 1, b ≠ 1#1 → b = 0#1 := by decide
  have hw : ∀ b : BitVec 1, IntOp.andi b (0#1) = 0#1 := by decide
  unfold gate
  rw [hb _ h, hw]
  rfl

/-- Over all sixteen experts only the four of the tile's group add anything, and none where the tile holds no rows. -/
theorem experts (s : Fin 4 → BitVec 32) (k : ℕ) (G : Fin 16 → EReal → EReal) (hG : ∀ e, G e 0 = 0) (x : Fin 16 → EReal) :
    ∑ e, G e (gate s k e (x e)) = if live s k then ∑ u, G (xpt s k u) (x (xpt s k u)) else 0 := by
  by_cases h : live s k
  · rw [if_pos h, ← (finProdFinEquiv (m := 4) (n := 4)).sum_comp, Fintype.sum_prod_type]
    refine (Finset.sum_eq_single (grpF s k) (fun g _ hg => ?_) fun hn => absurd (Finset.mem_univ _) hn).trans ?_
    · refine Finset.sum_eq_zero fun u _ => ?_
      rw [gate_other, hG]
      have hu := u.isLt
      show (u.val + 4 * g.val) / 4 ≠ _
      exact fun e => hg (Fin.ext (by omega))
    · refine Finset.sum_congr rfl fun u _ => ?_
      have e : finProdFinEquiv (m := 4) (n := 4) (grpF s k, u) = xpt s k u := Fin.ext (Nat.add_comm u.val (4 * (grpF s k).val))
      rw [e, gate_pos s k u _ h]
  · rw [if_neg h]
    exact Finset.sum_eq_zero fun e _ => by rw [gate_dead s k e _ h, hG]

end Cert.MoeSpec

end
-- ==== Proof.MoeTabIdeal.lean ====
module

public import proofs.«01_k».proof.Proof.MoeSpec
public import proofs.«01_k».proof.Proof.MoeRunIdeal
public import Idealize.ShloMosaic.Lib.Pointwise
public import Idealize.ShloMosaic.Lib.Pipeline.ValueKit

@[expose] public section

set_option maxRecDepth 16384

/-! The tables that the grouped expert call is handed, read as the routing words, and that every block they choose lies inside
its array. -/

noncomputable section

namespace Cert.Kernel2Ideal.Moe

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ)

/-- The lengths of the four runs. -/
def seg (c : Dev nD) (j : Fin 4) : BitVec 32 := (m ((c : Thread nD τ).loc main_arg0) : Vec F S4 .i32) (ix1 j)

/-- The table of groups at tile `k`. -/
theorem grp_at (c : Dev nD) (k : Fin 36) : (V m c main_v22 : Vec F S36 .i32) (ix1 k) = MoeSpec.grp (seg m c) k.val := by
  simp only [V, hostOps0, hostOps0_1, hostOps0_2, hostOps0_3, hostOps0_4, List.flatten_cons, List.flatten_nil, List.append_nil, List.cons_append, List.nil_append]
  after_results
  simp only [StableHlo.TRef.toBuf, StableHlo.TRef.ofBuf, cast_eq, id_eq]
  pointwise
  unfold MoeSpec.grp
  simp only [← MoeSpec.fin_eq]
  rfl

/-- The table of how many tiles hold rows. -/
theorem used_at (c : Dev nD) : (V m c main_v25 : Vec F S1 .i32) (ix1 0) = MoeSpec.used (seg m c) := by
  simp only [V, hostOps0, hostOps0_1, hostOps0_2, hostOps0_3, hostOps0_4, List.flatten_cons, List.flatten_nil, List.append_nil, List.cons_append, List.nil_append]
  after_results
  simp only [StableHlo.TRef.toBuf, StableHlo.TRef.ofBuf, cast_eq, id_eq]
  pointwise
  rfl

/-- Where an index map reads the table of groups: at its own tile. -/
theorem tile_ix (i : grid0.Coords) (h : ∀ a, (![(Scalar.indexCast (BitVec.ofNat 32 (i 0).val) : Index).toNat] : Fin 1 → ℕ) a + S1.size a ≤ S36.size a) :
    (Rect.unit (s := S36) ![(Scalar.indexCast (BitVec.ofNat 32 (i 0).val) : Index).toNat] S1.size h).emb (Shape.Idx.first (numel1_S1.symm ▸ Nat.one_pos)) = ix1 (i 0) := by
  have hi : (i 0).val < 36 := (i 0).isLt
  funext (a : Fin 1)
  obtain rfl : a = 0 := Subsingleton.elim _ _
  apply Fin.ext
  show (Scalar.indexCast (BitVec.ofNat 32 (i 0).val) : Index).toNat + 1 * 0 = (i 0).val
  simp [Scalar.indexCast]
  omega

/-- Where an index map reads the table of the count. -/
theorem count_ix : (Rect.unit (s := S1) ![0] S1.size inb_S1_S1_0).emb (Shape.Idx.first (numel1_S1.symm ▸ Nat.one_pos)) = ix1 0 := by
  funext (a : Fin 1)
  obtain rfl : a = 0 := Subsingleton.elim _ _
  rfl

/-- The word that an index map reads from the table of groups. -/
theorem tbl0_at (i : grid0.Coords) (h) :
    (tbl m).at 0 (Rect.unit (s := S36) ![(Scalar.indexCast (BitVec.ofNat 32 (i 0).val) : Index).toNat] S1.size h) numel1_S1 = MoeSpec.grp (seg m 0) (i 0).val :=
  (congrArg (tbl m 0) (tile_ix i h)).trans (grp_at m 0 (i 0))

/-- The word that an index map reads from the table of the count. -/
theorem tbl1_at : (tbl m).at 1 (Rect.unit (s := S1) ![0] S1.size inb_S1_S1_0) numel1_S1 = MoeSpec.used (seg m 0) :=
  (congrArg (tbl m 1) count_ix).trans (used_at m 0)

/-- The block of the gate weights that a grid point reads. -/
theorem map1 (i : grid0.Coords) : cc0_transform_1 k0_off1_inb numel1_S1 inb_S1_S1_0 (tbl m) i = ![0, (MoeSpec.xword (seg m 0) (i 0).val (i 1).val).toNat, 0, 0] :=
  congrArg₂ (fun a b : BitVec 32 => (![0, (IntOp.addi (IntOp.muli a 4#32) (Scalar.select (IntOp.cmpi .slt (BitVec.ofNat 32 (i 0).val) b)
    (BitVec.ofNat 32 (i 1).val) 3#32)).toNat, 0, 0] : Fin 4 → ℕ)) (tbl0_at m i _) (tbl1_at m)

/-- The block of the up weights that a grid point reads. -/
theorem map2 (i : grid0.Coords) : cc0_transform_2 k0_off1_inb numel1_S1 inb_S1_S1_0 (tbl m) i = ![0, (MoeSpec.xword (seg m 0) (i 0).val (i 1).val).toNat, 0, 0] := map1 m i

/-- The block of the down weights that a grid point reads. -/
theorem map3 (i : grid0.Coords) : cc0_transform_3 k0_off1_inb numel1_S1 inb_S1_S1_0 (tbl m) i = ![0, (MoeSpec.xword (seg m 0) (i 0).val (i 1).val).toNat, 0, 0] := map1 m i

/-- One of sixteen experts' gate or up weights lie inside their array. -/
theorem inside_up (w : ℕ) (h : w < 16) : ∀ a, ((![0, w, 0, 0] : Fin 4 → ℕ) a + 1) * S1x1x1024x512.size a ≤ S2x16x1024x512.size a
  | ⟨0, _⟩ => by show (0 + 1) * 1 ≤ 2; omega
  | ⟨1, _⟩ => by show (w + 1) * 1 ≤ 16; omega
  | ⟨2, _⟩ => by show (0 + 1) * 1024 ≤ 1024; omega
  | ⟨3, _⟩ => by show (0 + 1) * 512 ≤ 512; omega

/-- One of sixteen experts' down weights lie inside their array. -/
theorem inside_down (w : ℕ) (h : w < 16) : ∀ a, ((![0, w, 0, 0] : Fin 4 → ℕ) a + 1) * S1x1x512x1024.size a ≤ S2x16x512x1024.size a
  | ⟨0, _⟩ => by show (0 + 1) * 1 ≤ 2; omega
  | ⟨1, _⟩ => by show (w + 1) * 1 ≤ 16; omega
  | ⟨2, _⟩ => by show (0 + 1) * 512 ≤ 512; omega
  | ⟨3, _⟩ => by show (0 + 1) * 1024 ≤ 1024; omega

/-- Every block that the tables choose lies inside its array. -/
theorem ok : Ok m :=
  ⟨fun i => ⟨by rw [map1]; exact inside_up _ (MoeSpec.xword_lt _ _ (i 1)), .inl rfl⟩,
    fun i => ⟨by rw [map2]; exact inside_up _ (MoeSpec.xword_lt _ _ (i 1)), .inl rfl⟩,
    fun i => ⟨by rw [map3]; exact inside_down _ (MoeSpec.xword_lt _ _ (i 1)), .inl rfl⟩⟩

end Cert.Kernel2Ideal.Moe

end
-- ==== Proof.MoeBlock.lean ====
module

public import Idealize.ShloMosaic.Lib.Pipeline.ReadBack
public import proofs.«01_k».proof.Proof.MoeTabIdeal
public import Idealize.ShloMosaic.Lib.Pointwise
public import Idealize.ShloMosaic.Lib.Pipeline.ValueKit

@[expose] public section

set_option maxRecDepth 16384

/-! What a grid point leaves in the accumulator and in the output block. -/

noncomputable section

namespace Cert.Kernel2Ideal.Moe

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ) (c : Dev nD)

/-- The hidden values of a block of rows. -/
def hid (x : Vec F S1024x1152 .f32) : Vec F S1024x1024 .f32 :=
  View.ld x (Rect.unit (s := S1024x1152) ![0, 0] S1024x1024.size inb_S1024x1152_S1024x1024_0_0)

/-- The lanes of a block of rows that hold its gates. -/
def gts (x : Vec F S1024x1152 .f32) : Vec F S1024x128 .f32 :=
  View.ld x (Rect.unit (s := S1024x1152) ![0, 1024] S1024x128.size inb_S1024x1152_S1024x128_0_1024)

/-- What a step of a tile with rows leaves in the accumulator, from its blocks and what it found there. -/
def stepV (i : grid0.Coords) (x0 : Vec F S1024x1152 .f32) (x1 x2 : Vec F S1x1x1024x512 .f32) (x3 : Vec F S1x1x512x1024 .f32) (acc : Vec F S1024x1024 .f32) :
    Vec F S1024x1024 .f32 :=
  k0_pay2 i (hid x0) (gts x0) x1 x2 acc x3

/-- What the step at point `t` leaves in the accumulator. -/
def step (t : Fin (cfgM m (ok m)).N) (acc : Vec F S1024x1024 .f32) : Vec F S1024x1024 .f32 :=
  stepV (grid0.coords t) (iblk m (ok m) c 0 t) (iblk m (ok m) c 1 t) (iblk m (ok m) c 2 t) (iblk m (ok m) c 3 t) acc

/-- Whether the body takes point `t` for one of a tile with rows. -/
abbrev on (t : Fin (cfgM m (ok m)).N) : Prop :=
  cond0_1 (grid0.coords t) (tbM0_1.view.readAt (Elt F) (Rect.unit (s := S1) ![0] S1.size inb_S1_S1_0).toLoadRect (tbl m 1) (Shape.Idx.first (numel1_S1.symm ▸ Nat.one_pos)))

section pieces
variable (i : grid0.Coords) (a4 : Memref sig .tc .vmem S1024x1152 .f32) (h4 : a4.IsWhole) (a5 : Memref sig .tc .vmem S1x1x1024x512 .f32) (h5 : a5.IsWhole)
  (a6 : Memref sig .tc .vmem S1x1x1024x512 .f32) (h6 : a6.IsWhole) (a7 : Memref sig .tc .vmem S1x1x512x1024 .f32) (h7 : a7.IsWhole)
  (a8 : Memref sig .tc .vmem S1024x1024 .f32) (h8 : a8.IsWhole) (a9 : Memref sig .tc .vmem S1024x1024 .f32) (h9 : a9.IsWhole)
  (x0 : Vec F S1024x1152 .f32) (x1 x2 : Vec F S1x1x1024x512 .f32) (x3 : Vec F S1x1x512x1024 .f32)
  (T0 : TbBuf0 (F := F) c tbM0_0) (T1 : TbBuf0 (F := F) c tbM0_1) (acc : Vec F S1024x1024 .f32)

/-- Whether the body takes a point for one of a tile with rows, from the words it is handed. -/
abbrev onT (c : Dev nD) (i : grid0.Coords) (T1 : TbBuf0 (F := F) c tbM0_1) : Prop :=
  cond0_1 i (tbM0_1.view.readAt (Elt F) (Rect.unit (s := S1) ![0] S1.size inb_S1_S1_0).toLoadRect T1 (Shape.Idx.first (numel1_S1.symm ▸ Nat.one_pos)))

theorem accV_A (hc0 : cond0_0 i) (hc2 : ¬ cond0_2 i) (hc1 : onT c i T1) :
    sout0_A_0 c i a4 h4 a5 h5 a6 h6 a7 h7 a8 h8 a9 h9 hc0 hc2 x0 x1 x2 x3 T0 T1 hc1 = stepV i x0 x1 x2 x3 k0_pay1 := by
  frame_open
  simp (disch := decide) only [↓ View.readCov_skip, ↓ View.readCov_cons_toLoadRect, ↓ View.readCov_fill]
  frame_out
  try simp only [Memref.IsWhole.read_unread]
  try rfl

theorem accV_B (hc0 : cond0_0 i) (hc2 : ¬ cond0_2 i) (hc1 : ¬ onT c i T1) :
    sout0_B_0 c i a4 h4 a5 h5 a6 h6 a7 h7 a8 h8 a9 h9 hc0 hc2 x0 x1 x2 x3 T0 T1 hc1 = k0_pay1 := by
  frame_open
  simp (disch := decide) only [↓ View.readCov_skip, ↓ View.readCov_cons_toLoadRect, ↓ View.readCov_fill]
  frame_out
  try simp only [Memref.IsWhole.read_unread]
  try rfl

theorem accV_C (hc0 : ¬ cond0_0 i) (hc2 : ¬ cond0_2 i) (hc1 : onT c i T1) :
    sout0_C_0 c i a4 h4 a5 h5 a6 h6 a7 h7 a8 h8 a9 h9 hc0 hc2 x0 x1 x2 x3 T0 T1 acc hc1 = stepV i x0 x1 x2 x3 acc := by
  frame_open
  simp (disch := decide) only [↓ View.readCov_skip, ↓ View.readCov_cons_toLoadRect, ↓ View.readCov_fill]
  frame_out
  try simp only [Memref.IsWhole.read_unread]
  try rfl

theorem accV_E (hc0 : ¬ cond0_0 i) (hc2 : cond0_2 i) (hc1 : onT c i T1) :
    sout0_E_0 c i a4 h4 a5 h5 a6 h6 a7 h7 a8 h8 a9 h9 hc0 hc2 x0 x1 x2 x3 T0 T1 acc hc1 = stepV i x0 x1 x2 x3 acc := by
  frame_open
  simp (disch := decide) only [↓ View.readCov_skip, ↓ View.readCov_cons_toLoadRect, ↓ View.readCov_fill]
  frame_out
  try simp only [Memref.IsWhole.read_unread]
  try rfl

theorem outV_E (hc0 : ¬ cond0_0 i) (hc2 : cond0_2 i) (hc1 : onT c i T1) :
    out0_E_4 c i a4 h4 a5 h5 a6 h6 a7 h7 a8 h8 a9 h9 hc0 hc2 x0 x1 x2 x3 T0 T1 acc hc1 = stepV i x0 x1 x2 x3 acc := by
  frame_open
  simp (disch := decide) only [↓ View.readCov_skip, ↓ View.readCov_cons_toLoadRect, ↓ View.readCov_fill]
  frame_out
  try simp only [Memref.IsWhole.read_unread]
  try rfl

theorem outV_F (hc0 : ¬ cond0_0 i) (hc2 : cond0_2 i) (hc1 : ¬ onT c i T1) :
    out0_F_4 c i a4 h4 a5 h5 a6 h6 a7 h7 a8 h8 a9 h9 hc0 hc2 x0 x1 x2 x3 T0 T1 acc hc1 = acc := by
  frame_open
  simp (disch := decide) only [↓ View.readCov_skip, ↓ View.readCov_cons_toLoadRect, ↓ View.readCov_fill]
  frame_out
  try simp only [Memref.IsWhole.read_unread]
  try rfl

end pieces

theorem acc_A (t : Fin (cfgM m (ok m)).N) (h0 : t.val % 4 = 0) (h1 : on m t) (h2 : ¬ t.val % 4 = 3) :
    (outsAt0 m (ok m) c t.val t.isLt).2 = step m c t k0_pay1 := by
  rw [outsAt0_A m (ok m) c t h0 h1 h2]
  dsimp only
  have key := accV_A c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
    (ms0_4 m (ok m) t) (hs0_4 m (ok m) t) scM0_0 (Memref.isWhole_whole _) (iblk m (ok m) c 0 t) (iblk m (ok m) c 1 t) (iblk m (ok m) c 2 t) (iblk m (ok m) c 3 t) (tbl m 0) (tbl m 1)
    ((hcond0_0 t).mpr h0) (fun h => h2 ((hcond0_2 t).mp h)) h1
  unfold step
  exact key

theorem acc_B (t : Fin (cfgM m (ok m)).N) (h0 : t.val % 4 = 0) (h1 : ¬ on m t) (h2 : ¬ t.val % 4 = 3) :
    (outsAt0 m (ok m) c t.val t.isLt).2 = k0_pay1 := by
  rw [outsAt0_B m (ok m) c t h0 h1 h2]
  dsimp only
  have key := accV_B c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
    (ms0_4 m (ok m) t) (hs0_4 m (ok m) t) scM0_0 (Memref.isWhole_whole _) (iblk m (ok m) c 0 t) (iblk m (ok m) c 1 t) (iblk m (ok m) c 2 t) (iblk m (ok m) c 3 t) (tbl m 0) (tbl m 1)
    ((hcond0_0 t).mpr h0) (fun h => h2 ((hcond0_2 t).mp h)) h1
  exact key

theorem acc_C (t : Fin (cfgM m (ok m)).N) (h0 : ¬ t.val % 4 = 0) (h1 : on m t) (h2 : ¬ t.val % 4 = 3) :
    (outsAt0 m (ok m) c t.val t.isLt).2 = step m c t (outsAt0 m (ok m) c (t.val - 1) (Nat.lt_of_le_of_lt (Nat.sub_le _ _) t.isLt)).2 := by
  rw [outsAt0_C m (ok m) c t h0 h1 h2]
  dsimp only
  have key := accV_C c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
    (ms0_4 m (ok m) t) (hs0_4 m (ok m) t) scM0_0 (Memref.isWhole_whole _) (iblk m (ok m) c 0 t) (iblk m (ok m) c 1 t) (iblk m (ok m) c 2 t) (iblk m (ok m) c 3 t) (tbl m 0) (tbl m 1) (outsAt0 m (ok m) c (t.val - 1) (Nat.lt_of_le_of_lt (Nat.sub_le _ _) t.isLt)).2
    (fun h => h0 ((hcond0_0 t).mp h)) (fun h => h2 ((hcond0_2 t).mp h)) h1
  unfold step
  exact key

theorem acc_D (t : Fin (cfgM m (ok m)).N) (h0 : ¬ t.val % 4 = 0) (h1 : ¬ on m t) (h2 : ¬ t.val % 4 = 3) :
    (outsAt0 m (ok m) c t.val t.isLt).2 = (outsAt0 m (ok m) c (t.val - 1) (Nat.lt_of_le_of_lt (Nat.sub_le _ _) t.isLt)).2 := by
  rw [outsAt0_D m (ok m) c t h0 h1 h2]
  rfl

theorem acc_E (t : Fin (cfgM m (ok m)).N) (h0 : ¬ t.val % 4 = 0) (h1 : on m t) (h2 : t.val % 4 = 3) :
    (outsAt0 m (ok m) c t.val t.isLt).2 = step m c t (outsAt0 m (ok m) c (t.val - 1) (Nat.lt_of_le_of_lt (Nat.sub_le _ _) t.isLt)).2 := by
  rw [outsAt0_E m (ok m) c t h0 h1 h2]
  dsimp only
  have key := accV_E c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
    (ms0_4 m (ok m) t) (hs0_4 m (ok m) t) scM0_0 (Memref.isWhole_whole _) (iblk m (ok m) c 0 t) (iblk m (ok m) c 1 t) (iblk m (ok m) c 2 t) (iblk m (ok m) c 3 t) (tbl m 0) (tbl m 1) (outsAt0 m (ok m) c (t.val - 1) (Nat.lt_of_le_of_lt (Nat.sub_le _ _) t.isLt)).2
    (fun h => h0 ((hcond0_0 t).mp h)) ((hcond0_2 t).mpr h2) h1
  unfold step
  exact key

theorem out_E (t : Fin (cfgM m (ok m)).N) (h0 : ¬ t.val % 4 = 0) (h1 : on m t) (h2 : t.val % 4 = 3) :
    (outsAt0 m (ok m) c t.val t.isLt).1 = step m c t (outsAt0 m (ok m) c (t.val - 1) (Nat.lt_of_le_of_lt (Nat.sub_le _ _) t.isLt)).2 := by
  rw [outsAt0_E m (ok m) c t h0 h1 h2]
  dsimp only
  have key := outV_E c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
    (ms0_4 m (ok m) t) (hs0_4 m (ok m) t) scM0_0 (Memref.isWhole_whole _) (iblk m (ok m) c 0 t) (iblk m (ok m) c 1 t) (iblk m (ok m) c 2 t) (iblk m (ok m) c 3 t) (tbl m 0) (tbl m 1) (outsAt0 m (ok m) c (t.val - 1) (Nat.lt_of_le_of_lt (Nat.sub_le _ _) t.isLt)).2
    (fun h => h0 ((hcond0_0 t).mp h)) ((hcond0_2 t).mpr h2) h1
  unfold step
  exact key

theorem acc_F (t : Fin (cfgM m (ok m)).N) (h0 : ¬ t.val % 4 = 0) (h1 : ¬ on m t) (h2 : t.val % 4 = 3) :
    (outsAt0 m (ok m) c t.val t.isLt).2 = (outsAt0 m (ok m) c (t.val - 1) (Nat.lt_of_le_of_lt (Nat.sub_le _ _) t.isLt)).2 := by
  rw [outsAt0_F m (ok m) c t h0 h1 h2]
  rfl

theorem out_F (t : Fin (cfgM m (ok m)).N) (h0 : ¬ t.val % 4 = 0) (h1 : ¬ on m t) (h2 : t.val % 4 = 3) :
    (outsAt0 m (ok m) c t.val t.isLt).1 = (outsAt0 m (ok m) c (t.val - 1) (Nat.lt_of_le_of_lt (Nat.sub_le _ _) t.isLt)).2 := by
  rw [outsAt0_F m (ok m) c t h0 h1 h2]
  dsimp only
  have key := outV_F c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t)
    (ms0_4 m (ok m) t) (hs0_4 m (ok m) t) scM0_0 (Memref.isWhole_whole _) (iblk m (ok m) c 0 t) (iblk m (ok m) c 1 t) (iblk m (ok m) c 2 t) (iblk m (ok m) c 3 t) (tbl m 0) (tbl m 1) (outsAt0 m (ok m) c (t.val - 1) (Nat.lt_of_le_of_lt (Nat.sub_le _ _) t.isLt)).2
    (fun h => h0 ((hcond0_0 t).mp h)) ((hcond0_2 t).mpr h2) h1
  exact key

end Cert.Kernel2Ideal.Moe

end
-- ==== Proof.MoeVal.lean ====
module

public import proofs.«01_k».proof.Proof.MoeBlock

@[expose] public section

set_option maxRecDepth 16384

/-! What the grouped expert call leaves in its result, row by row. -/

noncomputable section

namespace Cert.Kernel2Ideal.Moe

open Cert.Kernel2Ideal Cert.Kernel2Ideal.Gen Idealize.ShloMosaic Idealize.ShloMosaic.TcCoe Idealize.SL.Sem

/-- One step adds one expert's part to every element. -/
theorem stepV_at (i : grid0.Coords) (u : Fin 4) (hu : (i 1).val = u.val) (x0 : Vec Ideal S1024x1152 .f32) (x1 x2 : Vec Ideal S1x1x1024x512 .f32) (x3 : Vec Ideal S1x1x512x1024 .f32)
    (acc : Vec Ideal S1024x1024 .f32) (r d : Fin 1024) :
    stepV i x0 x1 x2 x3 acc (ix2 r d) = acc (ix2 r d) + MoeSpec.part (x0 (ix2 r ⟨1024 + u.val, by omega⟩)) (fun k => x0 (ix2 r ⟨k.val, by omega⟩))
      (fun k f => x1 (ix4 0 0 k f)) (fun k f => x2 (ix4 0 0 k f)) (fun f => x3 (ix4 0 0 f d)) := by
  pointwise [stepV, k0_pay2, hid, gts]
  rw [hu, MoeSpec.pick u fun l => x0 (ix2 r ⟨1024 + l.val, by omega⟩)]
  rfl

theorem pay1_at (r d : Fin 1024) : (k0_pay1 (F := Ideal)) (ix2 r d) = 0 := by
  pointwise [k0_pay1]

variable (m : (ℓ : Loc nD τ sig) → Buf (Elt Ideal) ℓ) (c : Dev nD)

/-- The rows, and one layer's expert weights, as plain functions. -/
def xs (r : Fin 36864) (l : Fin 1152) : EReal := (m ((c : Thread nD τ).loc main_arg1) : Vec Ideal S36864x1152 .f32) (ix2 r l)
def wg (e : Fin 16) (k : Fin 1024) (f : Fin 512) : EReal := (m ((c : Thread nD τ).loc main_arg2) : Vec Ideal S2x16x1024x512 .f32) (ix4 0 e k f)
def wu (e : Fin 16) (k : Fin 1024) (f : Fin 512) : EReal := (m ((c : Thread nD τ).loc main_arg3) : Vec Ideal S2x16x1024x512 .f32) (ix4 0 e k f)
def wd (e : Fin 16) (f : Fin 512) (d : Fin 1024) : EReal := (m ((c : Thread nD τ).loc main_arg4) : Vec Ideal S2x16x512x1024 .f32) (ix4 0 e f d)

theorem ptLt (t : Fin (cfgM m (ok m)).N) : t.val < 144 := lt_of_lt_of_eq t.isLt N_0

/-- The tile and the step of a grid point. -/
def tile (t : Fin (cfgM m (ok m)).N) : Fin 36 := ⟨t.val / 4, by have := ptLt m t; omega⟩
def turn (t : Fin (cfgM m (ok m)).N) : Fin 4 := ⟨t.val % 4, Nat.mod_lt _ (by decide)⟩

theorem coord0 (t : Fin (cfgM m (ok m)).N) : (grid0.coords t 0).val = (tile m t).val :=
  (Pipeline.Grid.coords_val (G := grid0) t 0 (S := 4) (by decide) rfl).trans (Nat.mod_eq_of_lt (by have := ptLt m t; show t.val / 4 < 36; omega))

theorem coord1 (t : Fin (cfgM m (ok m)).N) : (grid0.coords t 1).val = (turn m t).val :=
  (Pipeline.Grid.coords_val (G := grid0) t 1 (S := 1) (by decide) rfl).trans (by show t.val / 1 % 4 = _; rw [Nat.div_one]; rfl)

/-- Row `r` of tile `k`, among all rows. -/
def row (k : Fin 36) (r : Fin 1024) : Fin 36864 := ⟨1024 * k.val + r.val, by omega⟩

/-- The expert that a grid point's weights are of. -/
def ex (t : Fin (cfgM m (ok m)).N) : Fin 16 := ⟨(MoeSpec.xword (seg m 0) (tile m t).val (turn m t).val).toNat, MoeSpec.xword_lt _ _ _⟩

theorem ind0 (t : Fin (cfgM m (ok m)).N) : (pcfg0.win (adm m (ok m)) 0).index t = ![(tile m t).val, 0] := by
  have h : (BitVec.ofNat 32 (grid0.coords t 0).val).toNat = (tile m t).val := by
    rw [coord0, BitVec.toNat_ofNat]
    exact Nat.mod_eq_of_lt (lt_trans (tile m t).isLt (by decide))
  exact congrArg (fun n : ℕ => (![n, 0] : Fin 2 → ℕ)) h

/-- A unit block's place. -/
theorem atE {n x : ℕ} (h : n = x) : n + 0 = x := h

/-- A whole axis's place. -/
theorem at0 {n s x : ℕ} (h : n = 0) : n * s + x = x := by subst h; omega

theorem ind1 (t : Fin (cfgM m (ok m)).N) : (pcfg0.win (adm m (ok m)) 1).index t = ![0, (ex m t).val, 0, 0] :=
  (map1 m (grid0.coords t)).trans (by rw [coord0, coord1]; rfl)
theorem ind2 (t : Fin (cfgM m (ok m)).N) : (pcfg0.win (adm m (ok m)) 2).index t = ![0, (ex m t).val, 0, 0] :=
  (map2 m (grid0.coords t)).trans (by rw [coord0, coord1]; rfl)
theorem ind3 (t : Fin (cfgM m (ok m)).N) : (pcfg0.win (adm m (ok m)) 3).index t = ![0, (ex m t).val, 0, 0] :=
  (map3 m (grid0.coords t)).trans (by rw [coord0, coord1]; rfl)

theorem blk0 (t : Fin (cfgM m (ok m)).N) (r : Fin 1024) (l : Fin 1152) : iblk m (ok m) c 0 t (ix2 r l) = xs m c (row (tile m t) r) l := by
  refine Eq.trans (b := V m c main_arg1 (ix2 (row (tile m t) r) l)) ?_ (congrFun (V_main_arg1 m c) _)
  have ht := ptLt m t
  unfold row
  blk_ext [iblk]
  · exact (congrArg (fun n : ℕ => n * 1024 + r.val) (congrFun (ind0 m t) 0)).trans (by show (tile m t).val * 1024 + r.val = _; omega)
  · exact at0 (congrFun (ind0 m t) 1)

theorem blk1 (t : Fin (cfgM m (ok m)).N) (k : Fin 1024) (f : Fin 512) : iblk m (ok m) c 1 t (ix4 0 0 k f) = wg m c (ex m t) k f := by
  refine Eq.trans (b := V m c main_arg2 (ix4 0 (ex m t) k f)) ?_ (congrFun (V_main_arg2 m c) _)
  blk_ext [iblk]
  · exact atE (congrFun (ind1 m t) 0)
  · exact atE (congrFun (ind1 m t) 1)
  · exact at0 (congrFun (ind1 m t) 2)
  · exact at0 (congrFun (ind1 m t) 3)

theorem blk2 (t : Fin (cfgM m (ok m)).N) (k : Fin 1024) (f : Fin 512) : iblk m (ok m) c 2 t (ix4 0 0 k f) = wu m c (ex m t) k f := by
  refine Eq.trans (b := V m c main_arg3 (ix4 0 (ex m t) k f)) ?_ (congrFun (V_main_arg3 m c) _)
  blk_ext [iblk]
  · exact atE (congrFun (ind2 m t) 0)
  · exact atE (congrFun (ind2 m t) 1)
  · exact at0 (congrFun (ind2 m t) 2)
  · exact at0 (congrFun (ind2 m t) 3)

theorem blk3 (t : Fin (cfgM m (ok m)).N) (f : Fin 512) (d : Fin 1024) : iblk m (ok m) c 3 t (ix4 0 0 f d) = wd m c (ex m t) f d := by
  refine Eq.trans (b := V m c main_arg4 (ix4 0 (ex m t) f d)) ?_ (congrFun (V_main_arg4 m c) _)
  blk_ext [iblk]
  · exact atE (congrFun (ind3 m t) 0)
  · exact atE (congrFun (ind3 m t) 1)
  · exact at0 (congrFun (ind3 m t) 2)
  · exact at0 (congrFun (ind3 m t) 3)

end Cert.Kernel2Ideal.Moe

end
-- ==== Proof.MoeSum.lean ====
module

public import proofs.«01_k».proof.Proof.MoeVal

@[expose] public section

set_option maxRecDepth 16384

/-! The grouped expert call's result: four experts' parts, added one step at a time, where the tile holds rows. -/

noncomputable section

namespace Cert.Kernel2Ideal.Moe

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- What expert `e` adds at a row whose gate is in lane `1024 + u`. -/
def partAt (R : Fin 36864) (e : Fin 16) (u : Fin 4) (d : Fin 1024) : EReal :=
  MoeSpec.part (xs m c R ⟨1024 + u.val, by omega⟩) (fun k => xs m c R ⟨k.val, by omega⟩) (wg m c e) (wu m c e) (fun f => wd m c e f d)

/-- The accumulator's element after the first `n` steps of tile `k`. -/
def accF (k : Fin 36) (r d : Fin 1024) : ℕ → EReal
  | 0 => 0
  | n + 1 => if MoeSpec.live (seg m 0) k.val then
      accF k r d n + partAt m c (row k r) (MoeSpec.xpt (seg m 0) k.val ⟨n % 4, Nat.mod_lt _ (by decide)⟩) ⟨n % 4, Nat.mod_lt _ (by decide)⟩ d
    else accF k r d n

/-- The word that decides is the count of tiles that hold rows. -/
theorem on_iff (t : Fin (cfgM m (ok m)).N) : on m t ↔ MoeSpec.live (seg m 0) (tile m t).val := by
  have hw : tbM0_1.view.readAt (Elt Ideal) (Rect.unit (s := S1) ![0] S1.size inb_S1_S1_0).toLoadRect (tbl m 1) (Shape.Idx.first (numel1_S1.symm ▸ Nat.one_pos)) = MoeSpec.used (seg m 0) :=
    tbl1_at m
  have hb : ∀ b : BitVec 1, Scalar.cmpi .ne (b.setWidth 32) 0#32 = 1#1 ↔ b = 1#1 := by decide
  unfold on
  rw [hw]
  unfold MoeSpec.live
  rw [← coord0 m t]
  exact hb _

/-- One step over blocks that are given element by element. -/
theorem stepV_of (i : grid0.Coords) (u : Fin 4) (hu : (i 1).val = u.val) (x0 : Vec Ideal S1024x1152 .f32) (x1 x2 : Vec Ideal S1x1x1024x512 .f32) (x3 : Vec Ideal S1x1x512x1024 .f32)
    (acc : Vec Ideal S1024x1024 .f32) (r d : Fin 1024) (R : Fin 36864) (e : Fin 16) (h0 : ∀ l, x0 (ix2 r l) = xs m c R l) (h1 : ∀ k f, x1 (ix4 0 0 k f) = wg m c e k f)
    (h2 : ∀ k f, x2 (ix4 0 0 k f) = wu m c e k f) (h3 : ∀ f d, x3 (ix4 0 0 f d) = wd m c e f d) :
    stepV i x0 x1 x2 x3 acc (ix2 r d) = acc (ix2 r d) + partAt m c R e u d := by
  rw [stepV_at i u hu]
  simp only [h0, h1, h2, h3]
  rfl

theorem step_at (t : Fin (cfgM m (ok m)).N) (hl : MoeSpec.live (seg m 0) (tile m t).val) (acc : Vec Ideal S1024x1024 .f32) (r d : Fin 1024) :
    step m c t acc (ix2 r d) = acc (ix2 r d) + partAt m c (row (tile m t) r) (MoeSpec.xpt (seg m 0) (tile m t).val (turn m t)) (turn m t) d := by
  have he : ex m t = MoeSpec.xpt (seg m 0) (tile m t).val (turn m t) := Fin.ext (MoeSpec.xword_live _ _ _ hl)
  rw [← he]
  exact stepV_of m c (grid0.coords t) (turn m t) (coord1 m t) (iblk m (ok m) c 0 t) (iblk m (ok m) c 1 t) (iblk m (ok m) c 2 t) (iblk m (ok m) c 3 t) acc r d
    (row (tile m t) r) (ex m t) (blk0 m c t r) (blk1 m c t) (blk2 m c t) (blk3 m c t)

/-- The accumulator after a step, from what it held before. -/
theorem accF_live (k : Fin 36) (r d : Fin 1024) (u : Fin 4) (h : MoeSpec.live (seg m 0) k.val) :
    accF m c k r d (u.val + 1) = accF m c k r d u.val + partAt m c (row k r) (MoeSpec.xpt (seg m 0) k.val u) u d := by
  have e : (⟨u.val % 4, Nat.mod_lt _ (by decide)⟩ : Fin 4) = u := Fin.ext (Nat.mod_eq_of_lt u.isLt)
  rw [accF, if_pos h, e]

theorem accF_dead (k : Fin 36) (r d : Fin 1024) (n : ℕ) (h : ¬ MoeSpec.live (seg m 0) k.val) : accF m c k r d (n + 1) = accF m c k r d n := by
  rw [accF, if_neg h]

/-- At a tile's first step the accumulator is new. -/
theorem acc_first (t : Fin (cfgM m (ok m)).N) (h0 : t.val % 4 = 0) (r d : Fin 1024) :
    (outsAt0 m (ok m) c t.val t.isLt).2 (ix2 r d) = accF m c (tile m t) r d ((turn m t).val + 1) := by
  have hu : (turn m t).val = 0 := h0
  by_cases hl : MoeSpec.live (seg m 0) (tile m t).val
  · rw [acc_A m c t h0 ((on_iff m t).2 hl) (by omega), step_at m c t hl, pay1_at, accF_live m c _ r d _ hl, hu]
    rfl
  · rw [acc_B m c t h0 (fun h => hl ((on_iff m t).1 h)) (by omega), pay1_at, accF_dead m c _ r d _ hl, hu]
    rfl

/-- At a later step it holds the steps before, and its own. -/
theorem acc_next (t : Fin (cfgM m (ok m)).N) (h0 : ¬ t.val % 4 = 0) (r d : Fin 1024)
    (hp : (outsAt0 m (ok m) c (t.val - 1) (Nat.lt_of_le_of_lt (Nat.sub_le _ _) t.isLt)).2 (ix2 r d) = accF m c (tile m t) r d (turn m t).val) :
    (outsAt0 m (ok m) c t.val t.isLt).2 (ix2 r d) = accF m c (tile m t) r d ((turn m t).val + 1) := by
  by_cases hl : MoeSpec.live (seg m 0) (tile m t).val
  · rw [accF_live m c _ r d _ hl, ← hp, ← step_at m c t hl]
    by_cases h2 : t.val % 4 = 3
    · rw [acc_E m c t h0 ((on_iff m t).2 hl) h2]
    · rw [acc_C m c t h0 ((on_iff m t).2 hl) h2]
  · rw [accF_dead m c _ r d _ hl, ← hp]
    by_cases h2 : t.val % 4 = 3
    · rw [acc_F m c t h0 (fun h => hl ((on_iff m t).1 h)) h2]
    · rw [acc_D m c t h0 (fun h => hl ((on_iff m t).1 h)) h2]

theorem acc_at (r d : Fin 1024) (n : ℕ) : ∀ t : Fin (cfgM m (ok m)).N, t.val = n →
    (outsAt0 m (ok m) c t.val t.isLt).2 (ix2 r d) = accF m c (tile m t) r d ((turn m t).val + 1) := by
  induction n with
  | zero => exact fun t ht => acc_first m c t (by omega) r d
  | succ n ih =>
    intro t ht
    by_cases h0 : t.val % 4 = 0
    · exact acc_first m c t h0 r d
    · have hlt : t.val - 1 < (cfgM m (ok m)).N := Nat.lt_of_le_of_lt (Nat.sub_le _ _) t.isLt
      refine acc_next m c t h0 r d ((ih ⟨t.val - 1, hlt⟩ (by show t.val - 1 = n; omega)).trans ?_)
      have e1 : tile m ⟨t.val - 1, hlt⟩ = tile m t := Fin.ext (by show (t.val - 1) / 4 = t.val / 4; omega)
      have e2 : (turn m ⟨t.val - 1, hlt⟩).val + 1 = (turn m t).val := by show (t.val - 1) % 4 + 1 = t.val % 4; omega
      rw [e1, e2]

/-- What a tile's last step leaves in the output block. -/
theorem out_at (t : Fin (cfgM m (ok m)).N) (h2 : t.val % 4 = 3) (r d : Fin 1024) :
    (outsAt0 m (ok m) c t.val t.isLt).1 (ix2 r d) = accF m c (tile m t) r d 4 := by
  have h0 : ¬ t.val % 4 = 0 := by omega
  have e : (turn m t).val + 1 = 4 := by show t.val % 4 + 1 = 4; omega
  have key := acc_at m c r d t.val t rfl
  rw [e] at key
  refine Eq.trans (congrFun ?_ _) key
  by_cases hl : MoeSpec.live (seg m 0) (tile m t).val
  · rw [out_E m c t h0 ((on_iff m t).2 hl) h2, acc_E m c t h0 ((on_iff m t).2 hl) h2]
  · rw [out_F m c t h0 (fun h => hl ((on_iff m t).1 h)) h2, acc_F m c t h0 (fun h => hl ((on_iff m t).1 h)) h2]

/-- The four steps together. -/
theorem accF_four (k : Fin 36) (r d : Fin 1024) : accF m c k r d 4 =
    if MoeSpec.live (seg m 0) k.val then ∑ u, partAt m c (row k r) (MoeSpec.xpt (seg m 0) k.val u) u d else 0 := by
  by_cases h : MoeSpec.live (seg m 0) k.val
  · rw [if_pos h, Fin.sum_univ_four, show accF m c k r d 4 = _ from accF_live m c k r d 3 h, show accF m c k r d (3 : Fin 4).val = _ from accF_live m c k r d 2 h,
      show accF m c k r d (2 : Fin 4).val = _ from accF_live m c k r d 1 h, show accF m c k r d (1 : Fin 4).val = _ from accF_live m c k r d 0 h,
      show accF m c k r d (0 : Fin 4).val = 0 from rfl, zero_add]
  · rw [if_neg h, accF_dead m c k r d 3 h, accF_dead m c k r d 2 h, accF_dead m c k r d 1 h, accF_dead m c k r d 0 h]
    rfl

/-- The result array. -/
def G4 (c : Dev nD) : Buf (Elt Ideal) ((c : Thread nD τ).loc main_v26) := fun (i : S36864x1024.Idx) =>
  accF m c ⟨(i 0).val / 1024, by have h : (i 0).val < 36864 := (i 0).isLt; omega⟩ ⟨(i 0).val % 1024, Nat.mod_lt _ (by decide)⟩ (i 1) 4

theorem ind4 (t : Fin (cfgM m (ok m)).N) : (pcfg0.win (adm m (ok m)) 4).index t = ![(tile m t).val, 0] := ind0 m t

theorem G4_of (i : S36864x1024.Idx) (k : Fin 36) (r d : Fin 1024) (h0 : (i 0).val = k.val * 1024 + r.val) (h1 : (i 1).val = d.val) : G4 m c i = accF m c k r d 4 := by
  have e0 : (i 0).val / 1024 = k.val := by omega
  have e1 : (i 0).val % 1024 = r.val := by omega
  have e2 : (i 1 : Fin 1024) = d := Fin.ext h1
  show accF m c ⟨(i 0).val / 1024, _⟩ ⟨(i 0).val % 1024, _⟩ (i 1) 4 = _
  congr 1
  · exact Fin.ext e0
  · exact Fin.ext e1

/-- Every row is in the block of its tile's last step. -/
theorem covers4 : ((cfgM m (ok m)).win 4).Covers := by
  refine ⟨fun (a : Fin 2) => by match a with | ⟨0, _⟩ => exact (by decide : 0 < 1024) | ⟨1, _⟩ => exact (by decide : 0 < 1024), fun β => ?_⟩
  have hb0 : (β (0 : Fin 2)).val < 36 := lt_of_lt_of_eq (β (0 : Fin 2)).isLt (show (36864 + 1024 - 1) / 1024 = 36 by decide)
  have hb1 : (β (1 : Fin 2)).val < 1 := lt_of_lt_of_eq (β (1 : Fin 2)).isLt (show (1024 + 1024 - 1) / 1024 = 1 by decide)
  have hN : 4 * (β (0 : Fin 2)).val + 3 < (cfgM m (ok m)).N := lt_of_lt_of_eq (by omega) N_0.symm
  refine ⟨⟨4 * (β (0 : Fin 2)).val + 3, hN⟩, (flush0_4 _ _).mpr (by show (4 * (β (0 : Fin 2)).val + 3) % 4 = 3; omega), fun (a : Fin 2) => ⟨?_, .inl rfl⟩⟩
  match a with
  | ⟨0, _⟩ => exact (congrFun (ind4 m _) 0).trans (by show (4 * (β (0 : Fin 2)).val + 3) / 4 = (β (0 : Fin 2)).val; omega)
  | ⟨1, _⟩ => exact (congrFun (ind4 m _) 1).trans (by show 0 = (β (1 : Fin 2)).val; omega)

/-- The result array after the run. -/
theorem final4 : (dats m (ok m) 0 c).arrAt 4 (cfgM m (ok m)).N = G4 m c := by
  refine (dats m (ok m) 0 c).arrAt_eq_of_covers 4 (G4 m c) (covers4 m) fun t hf y => ?_
  have h2 : t.val % 4 = 3 := (flush0_4 _ t).mp hf
  obtain ⟨r, d, rfl⟩ : ∃ r d : Fin 1024, y = ix2 r d := ⟨y (0 : Fin 2), y (1 : Fin 2), funext fun (a : Fin 2) => by fin_cases a <;> rfl⟩
  show (dats m (ok m) 0 c).after 4 t (ix2 r d) = _
  rw [after0_4]
  refine (out_at m c t h2 r d).trans (G4_of m c _ (tile m t) r d ?_ ?_).symm
  · show (pcfg0.win (adm m (ok m)) 4).index t (0 : Fin 2) * 1024 + 1 * r.val = _
    rw [congrFun (ind4 m t) 0, Nat.one_mul]
    rfl
  · show (pcfg0.win (adm m (ok m)) 4).index t (1 : Fin 2) * 1024 + 1 * d.val = _
    rw [congrFun (ind4 m t) 1]
    show 0 * 1024 + 1 * d.val = d.val
    omega

/-- The call runs, ends with the result array above, and keeps its arguments. -/
theorem run (ρ : Dev nD → PrngReg) : θ_run defs (onTc (τ := τ) (main (F := Ideal))) ⟨m, fun _ => 0, ρ⟩ fun r => ∀ c : Dev nD,
      r.2.mem ((c.tc : Thread nD τ).loc main_v26) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  by
  have key : ∀ r, Pipeline.FramePost (Pipeline.pin pcfgs fun _ => adm m (ok m)) (dats m (ok m)) 0 (V m) r →
      ∀ c : Dev nD, r.2.mem ((c.tc : Thread nD τ).loc main_v26) = G4 m c := fun r h c => ((h c).1 4).trans (final4 m c)
  have both := θ_run_and (unchanged m ρ (ok m)) ((θ_run defs _ _).mono key (run_main m ρ (ok m)))
  exact (θ_run defs _ _).mono (fun r h c => ⟨h.2 c, h.1 c⟩) both

end Cert.Kernel2Ideal.Moe

end
-- ==== Proof.MoeRef.lean ====
module

public import proofs.«01_k».proof.Proof.MoeSpec
public import proofs.«01_k».proof.Proof.Gen.Reference2Ideal.Read

@[expose] public section
set_option maxRecDepth 16384
noncomputable section

/-! The reference of the grouped expert call, row by row. -/

namespace Cert.Reference2Ideal.Moe
open Cert.Reference2Ideal Cert.Reference2Ideal.Gen Cert.Reference2Ideal.Read Idealize.ShloMosaic Idealize.ShloMosaic.TcCoe Idealize.SL.Sem
variable (x0 : (⟨S4, .i32⟩ : BufTy).Contents (Elt Ideal)) (x1 : (⟨S36864x1152, .f32⟩ : BufTy).Contents (Elt Ideal))
  (x2 x3 : (⟨S2x16x1024x512, .f32⟩ : BufTy).Contents (Elt Ideal)) (x4 : (⟨S2x16x512x1024, .f32⟩ : BufTy).Contents (Elt Ideal))

/-- The four lengths. -/
abbrev seg (j : Fin 4) : BitVec 32 := x0 (ix1 j)

theorem fin_at (g : Fin 4) : val_main_v8 (F := Ideal) x0 (ix1 g) = MoeSpec.fin (seg x0) g := by
  pointwise [val_main_v8, val_main_v7, val_main_v6, val_main_v5, val_main_v4, val_main_v3, val_main_v2, val_main_v1, val_main_v0, val_main_c, val_main_c_0, val_main_call0_v0, val_main_call0_v1, val_main_call0_v2]
  rfl

theorem grp_at (k : Fin 36) : val_main_v20 (F := Ideal) x0 (ix1 k) = MoeSpec.grp (seg x0) k.val := by
  pointwise [val_main_v20, val_main_v19, val_main_v18, val_main_v17, val_main_v16, val_main_v15, val_main_v14, val_main_v13, val_main_v12, val_main_v11, val_main_v10, val_main_v9, val_main_c_1, val_main_c_2, val_main_c_3]
  unfold MoeSpec.grp
  simp only [← fin_at]
  rfl

theorem used_at : val_main_v23 (F := Ideal) x0 ix0 = MoeSpec.used (seg x0) := by
  pointwise [val_main_v23, val_main_v22, val_main_c_4, val_main_c_5, val_main_call1_v0, val_main_call1_v1, val_main_call1_v2, val_main_call1_v3, val_main_call1_v4, val_main_call1_v5, val_main_call1_v6, val_main_call1_v7, val_main_call1_v8, val_main_call1_c, val_main_call1_c_0]
  rfl

theorem live_at (r : Fin 36864) : val_main_v31 (F := Ideal) x0 (ix1 r) = IntOp.cmpi .slt (BitVec.ofNat 32 (r.val / 1024)) (MoeSpec.used (seg x0)) := by
  pointwise [val_main_v31, val_main_v30, val_main_v29, val_main_v25, val_main_v24, val_main_v21]
  rw [used_at]

theorem own_at (r : Fin 36864) : val_main_v28 (F := Ideal) x0 (ix1 r) = MoeSpec.grp (seg x0) (r.val / 1024) := by
  pointwise [val_main_v28, val_main_v27, val_main_v26]
  exact grp_at x0 ⟨r.val / 1024, by omega⟩

theorem gate_at (r : Fin 36864) (e : Fin 16) : val_main_v45 (F := Ideal) x0 x1 (ix2 r e) =
    MoeSpec.gate (seg x0) (r.val / 1024) e (x1 (ix2 r ⟨1024 + e.val % 4, by omega⟩)) := by
  pointwise [val_main_v45, val_main_v44, val_main_v43, val_main_v42, val_main_v41, val_main_v40, val_main_v39, val_main_v38, val_main_v37, val_main_v36, val_main_v35, val_main_v34, val_main_v33, val_main_v0, val_main_call2_v0, val_main_call2_v1, val_main_call2_v2, val_main_call2_v3, val_main_cst]
  rw [live_at, own_at]
  have hz : id (constant (F := Ideal) S_ FTy.f32 0#32) ix0 = 0 := by
    show constant (F := Ideal) S_ FTy.f32 0#32 ix0 = 0
    pointwise
  rw [hz]
  rfl

theorem wdn_at (e : Fin 16) (f : Fin 512) (d : Fin 1024) : val_main_v58 (F := Ideal) x4 (ix3 e f d) = x4 (ix4 0 e f d) := by
  pointwise [val_main_v58, val_main_v57]

theorem hid_at (r : Fin 36864) (e : Fin 16) (f : Fin 512) : val_main_v56 (F := Ideal) x0 x1 x2 x3 (ix3 r e f) =
    val_main_v45 (F := Ideal) x0 x1 (ix2 r e) * MoeSpec.act (fun k => x1 (ix2 r ⟨k.val, by omega⟩)) (fun k f => x2 (ix4 0 e k f)) (fun k f => x3 (ix4 0 e k f)) f := by
  pointwise [val_main_v56, val_main_v55, val_main_v54, val_main_v53, val_main_v52, val_main_v51, val_main_v50, val_main_v49, val_main_v48, val_main_v47, val_main_v46, val_main_v32, val_main_call3_v0, val_main_call3_v1, val_main_call3_v2, val_main_call3_v3, val_main_call3_v4, val_main_call3_v5, val_main_call3_cst, val_main_call3_cst_0]
  rfl

theorem out_at (r : Fin 36864) (d : Fin 1024) : val_main_v59 (F := Ideal) x0 x1 x2 x3 x4 (ix2 r d) =
    ∑ e, MoeSpec.part (val_main_v45 (F := Ideal) x0 x1 (ix2 r e)) (fun k => x1 (ix2 r ⟨k.val, by omega⟩)) (fun k f => x2 (ix4 0 e k f)) (fun k f => x3 (ix4 0 e k f)) (fun f => x4 (ix4 0 e f d)) := by
  pointwise [val_main_v59]
  simp only [hid_at, wdn_at]
  rfl

end Cert.Reference2Ideal.Moe

end
-- ==== Proof.MoeClaim.lean ====
module

public import proofs.«01_k».proof.Defs
public import proofs.«01_k».proof.Proof.MoeSum
public import proofs.«01_k».proof.Proof.MoeRef
public import proofs.«01_k».proof.Proof.Gen.Kernel2Ideal
public import proofs.«01_k».proof.Proof.Gen.Reference2Ideal.Run
public import proofs.«01_k».proof.Proof.Gen.Reference2Ideal.Read
public import Idealize.ShloMosaic.Adequacy
public import Idealize.ShloMosaic.Init

@[expose] public section
set_option maxRecDepth 16384
noncomputable section

/-! The claims about the grouped expert call: the reference's run, and the equality of the two results. -/

namespace Cert.MoeClaim
open Idealize.ShloMosaic Idealize.ShloMosaic.TcCoe Idealize.SL.Sem

/-- The reference runs, keeps its arguments, and declares no semaphore. -/
theorem frame_r : Cert.quiescent_Reference2Ideal (hReference2Ideal := Cert.Reference2Ideal.Gen.facts) := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Over one set of arguments the reference's result is the kernel's. -/
theorem out_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v59 (F := Ideal) (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4))
      = Cert.Kernel2Ideal.Moe.G4 m c :=
  funext fun i => by
    obtain rfl : c = 0 := Subsingleton.elim _ _
    obtain ⟨R, d, rfl⟩ : ∃ (R : Fin 36864) (d : Fin 1024), i = ix2 R d := ⟨i 0, i 1, funext fun a => by fin_cases a <;> rfl⟩
    have hk : R.val / 1024 < 36 := by omega
    refine (Cert.Reference2Ideal.Moe.out_at _ _ _ _ _ R d).trans ?_
    refine Eq.trans ?_ ((Cert.Kernel2Ideal.Moe.G4_of m 0 (ix2 R d) ⟨R.val / 1024, hk⟩ ⟨R.val % 1024, Nat.mod_lt _ (by decide)⟩ d
      (by show R.val = R.val / 1024 * 1024 + R.val % 1024; omega) rfl).trans (Cert.Kernel2Ideal.Moe.accF_four m 0 _ _ d)).symm
    have hR : Cert.Kernel2Ideal.Moe.row ⟨R.val / 1024, hk⟩ ⟨R.val % 1024, Nat.mod_lt _ (by decide)⟩ = R :=
      Fin.ext (by show 1024 * (R.val / 1024) + R.val % 1024 = R.val; omega)
    rw [hR]
    simp only [Cert.Reference2Ideal.Moe.gate_at]
    refine (MoeSpec.experts (Cert.Kernel2Ideal.Moe.seg m 0) (R.val / 1024)
      (fun e g => MoeSpec.part g (fun k => Cert.Kernel2Ideal.Moe.xs m 0 R ⟨k.val, by omega⟩) (Cert.Kernel2Ideal.Moe.wg m 0 e) (Cert.Kernel2Ideal.Moe.wu m 0 e)
        (fun f => Cert.Kernel2Ideal.Moe.wd m 0 e f d)) (fun e => MoeSpec.part_zero _ _ _ _)
      (fun e => Cert.Kernel2Ideal.Moe.xs m 0 R ⟨1024 + e.val % 4, by omega⟩)).trans ?_
    refine congrArg (fun z : EReal => if MoeSpec.live (Cert.Kernel2Ideal.Moe.seg m 0) (R.val / 1024) then z else 0) (Finset.sum_congr rfl fun u _ => ?_)
    have hu : (⟨1024 + (MoeSpec.xpt (Cert.Kernel2Ideal.Moe.seg m 0) (R.val / 1024) u).val % 4, by omega⟩ : Fin 1152) = ⟨1024 + u.val, by omega⟩ :=
      Fin.ext (by show 1024 + (4 * _ + u.val) % 4 = 1024 + u.val; omega)
    rw [hu]
    rfl

/-- From equal arguments the exact kernel and the reference both run and end with equal results. -/
theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.Kernel2Ideal.Moe.G4 m c, Cert.Kernel2Ideal.Moe.run m ρ,
    (θ_run Cert.Reference2Ideal.defs _ _).mono (fun r h c => ⟨?_, (h c).2⟩) (Cert.Reference2Ideal.Value.run (F := Ideal) m' ρ')⟩
  refine ((h c).1.trans (Cert.Reference2Ideal.Read.val_main_v59_eq (F := Ideal) _ _)).trans ?_
  obtain ⟨h0, h1, h2, h3, h4⟩ := hag c
  refine Eq.trans ?_ (out_eq m c)
  rw [← h0, ← h1, ← h2, ← h3, ← h4]

end Cert.MoeClaim

end
-- ==== Proof.InSpec.lean ====
module

public import Idealize.ShloMosaic.Lib.Pointwise

@[expose] public section
noncomputable section

/-! What the input projection computes, as plain functions of its arguments' entries. -/

namespace Cert.InSpec
open Idealize.ShloMosaic

/-- One row `x`, brought to unit mean square, scaled by `g` and by one plus `sc`, and shifted by `sh`: its entry `k`. -/
def normed (x g sc sh : Fin 1024 → EReal) (k : Fin 1024) : EReal :=
  x k * Ideal.rsqrt (Ideal.div (∑ j, x j * x j) (Ideal.ofBits .f32 1149239296#32) + Ideal.ofBits .f32 897988541#32)
    * g k * (1 + sc k) + sh k

/-- The weight matrix followed by columns of zeros. -/
def widened (w : Fin 1024 → Fin 2840 → EReal) (k : Fin 1024) (n : ℕ) : EReal := if h : n < 2840 then w k ⟨n, h⟩ else 0

/-- Row `r` of the tokens laid end to end is token `r % 2048` of sequence `r / 2048`. -/
def seqOf (r : Fin 32768) : Fin 16 := ⟨r.val / 2048, by omega⟩
def tokOf (r : Fin 32768) : Fin 2048 := ⟨r.val % 2048, by omega⟩

/-- Column `n` of the projection of row `r`. -/
def proj (x : Fin 16 → Fin 2048 → Fin 1024 → EReal) (md : Fin 16 → Fin 6 → Fin 1024 → EReal) (g : Fin 1024 → EReal)
    (w : Fin 1024 → Fin 2840 → EReal) (r : Fin 32768) (n : ℕ) : EReal :=
  ∑ k, normed (x (seqOf r) (tokOf r)) g (md (seqOf r) 1) (md (seqOf r) 0) k * widened w k n

end Cert.InSpec

end
-- ==== Proof.InVal.lean ====
module

public import proofs.«01_k».proof.Proof.InSpec
public import proofs.«01_k».proof.Proof.Gen.Kernel3Ideal.Value
public import Idealize.ShloMosaic.Lib.Pointwise
public import Idealize.ShloMosaic.Lib.Pipeline.ValueKit

@[expose] public section
set_option maxRecDepth 16384
noncomputable section

/-! The input projection's blocks and results, entry by entry. -/

namespace Cert.Kernel3Ideal.In
open Cert.Kernel3Ideal Cert.Kernel3Ideal.Gen Cert.Kernel3Ideal.Value Idealize.ShloMosaic Idealize.ShloMosaic.TcCoe Idealize.SL.Sem

/-! ## The body's values over arbitrary blocks -/

theorem normed_at (v0 : Vec Ideal S1x6x1024 .f32) (v2 : Vec Ideal S512x1024 .f32) (v4 : Vec Ideal S1x1024 .f32) (i : Fin 512) (k : Fin 1024) :
    k0_pay3 (F := Ideal) v0 v2 v4 (ix2 i k) = InSpec.normed (fun k => v2 (ix2 i k)) (fun k => v4 (ix2 0 k)) (fun k => v0 (ix3 0 1 k)) (fun k => v0 (ix3 0 0 k)) k := by
  pointwise [k0_pay3]
  rfl

theorem tail_at (v0 : Vec Ideal S1x6x1024 .f32) (v2 : Vec Ideal S512x1024 .f32) (v4 : Vec Ideal S1x1024 .f32) (w : Vec Ideal S1024x896 .bf16) (i : Fin 512) (n : Fin 896) :
    k0_pay4 (F := Ideal) v0 v2 v4 w (ix2 i n) = ∑ k, k0_pay3 (F := Ideal) v0 v2 v4 (ix2 i k) * w (ix2 k n) := by
  unfold k0_pay4
  generalize k0_pay3 (F := Ideal) v0 v2 v4 = h
  pointwise

theorem head_at (v0 : Vec Ideal S1x6x1024 .f32) (v2 : Vec Ideal S512x1024 .f32) (v4 : Vec Ideal S1x1024 .f32) (w : Vec Ideal S1024x1024 .bf16) (i : Fin 512) (n : Fin 1024) :
    k0_pay5 (F := Ideal) v0 v2 v4 w (ix2 i n) = ∑ k, k0_pay3 (F := Ideal) v0 v2 v4 (ix2 i k) * w (ix2 k n) := by
  unfold k0_pay5
  generalize k0_pay3 (F := Ideal) v0 v2 v4 = h
  pointwise

theorem mid_at (h : FVec Ideal S512x1024 .bf16) (w : Vec Ideal S1024x512 .bf16) (i n : Fin 512) :
    k0_pay7 (F := Ideal) h (k0_pay6 w) (constant S512x512 .f32 0x00000000#32) (ix2 i n) = ∑ k, h (ix2 i k) * w (ix2 k n) := by
  pointwise [k0_pay7, k0_pay6]

/-- The word zero, read as a number. -/
theorem zero_word : (FloatOps.sitofp (F := Ideal) .f32 (0#32) : EReal) = 0 := by
  show ((((0#32 : BitVec 32).toInt : ℤ) : ℝ) : EReal) = 0
  simp

theorem ld_x (X : Vec Ideal S512x1024 .f32) (i : Fin 512) (k : Fin 1024) : View.ld X r0_1 (ix2 i k) = X (ix2 i k) := by pointwise
theorem ld_md (X : Vec Ideal S1x6x1024 .f32) (j : Fin 6) (k : Fin 1024) : View.ld X r0_0 (ix3 0 j k) = X (ix3 0 j k) := by pointwise
theorem ld_g (X : Vec Ideal S1x1024 .f32) (k : Fin 1024) : View.ld X r0_2 (ix2 0 k) = X (ix2 0 k) := by pointwise
theorem ld_tail (X : Vec Ideal S1024x2944 .bf16) (k : Fin 1024) (n : Fin 896) : View.ld X r0_3 (ix2 k n) = X (ix2 k ⟨2048 + n.val, by omega⟩) := by pointwise
theorem ld_head (X : Vec Ideal S1024x2944 .bf16) (k n : Fin 1024) : View.ld X r0_4 (ix2 k n) = X (ix2 k ⟨n.val, by omega⟩) := by pointwise
theorem ld_mid (X : Vec Ideal S1024x2944 .bf16) (k : Fin 1024) (n : Fin 512) : View.ld X r0_5 (ix2 k n) = X (ix2 k ⟨1024 + n.val, by omega⟩) := by pointwise

/-- What one store of the whole block leaves in it. -/
theorem canon_head (P : Vec Ideal S512x1024 .f32) (y : S512x1024.Idx) : View.canon [⟨r0_1, P⟩] y = P y := by
  refine View.canon_apply_of_pieces P _ ?_ y (cover0_8 _ y)
  intro pc hpc
  rcases List.mem_cons.mp hpc with rfl | hpc
  · exact fun x => congrArg P (funext fun a => Fin.ext (by fin_cases a <;> (show _ = 0 + 1 * _) <;> omega))
  nomatch hpc
theorem canon_mid (P : Vec Ideal S512x512 .f32) (y : S512x512.Idx) : View.canon [⟨r0_6, P⟩] y = P y := by
  refine View.canon_apply_of_pieces P _ ?_ y (cover0_9 _ y)
  intro pc hpc
  rcases List.mem_cons.mp hpc with rfl | hpc
  · exact fun x => congrArg P (funext fun a => Fin.ext (by fin_cases a <;> (show _ = 0 + 1 * _) <;> omega))
  nomatch hpc

/-! ## The arguments as plain functions, and the arrays the host prepares -/
variable (m : (ℓ : Loc nD τ sig) → Buf (Elt Ideal) ℓ) (c : Dev nD)

def x (b : Fin 16) (s : Fin 2048) (k : Fin 1024) : EReal := m ((c : Thread nD τ).loc main_arg0) (ix3 b s k)
def md (b : Fin 16) (j : Fin 6) (k : Fin 1024) : EReal := m ((c : Thread nD τ).loc main_arg1) (ix4 0 b j k)
def g (k : Fin 1024) : EReal := m ((c : Thread nD τ).loc main_arg4) (ix2 0 k)
def w (k : Fin 1024) (n : Fin 2840) : EReal := m ((c : Thread nD τ).loc main_arg5) (ix3 0 k n)

theorem V_x (r : Fin 32768) (k : Fin 1024) : V m c main_v8 (ix2 r k) = x m c (InSpec.seqOf r) (InSpec.tokOf r) k := by
  simp only [V, hostOps0, hostOps0_1, hostOps0_2, List.flatten_cons, List.flatten_nil, List.append_nil, List.cons_append, List.nil_append]
  after_results
  pointwise
  rfl

theorem V_md (b : Fin 16) (j : Fin 6) (k : Fin 1024) : V m c main_v10 (ix3 b j k) = md m c b j k := by
  simp only [V, hostOps0, hostOps0_1, hostOps0_2, List.flatten_cons, List.flatten_nil, List.append_nil, List.cons_append, List.nil_append]
  after_results
  pointwise
  rfl

theorem V_g (k : Fin 1024) : V m c main_v22 (ix2 0 k) = g m c k := by
  simp only [V, hostOps0, hostOps0_1, hostOps0_2, List.flatten_cons, List.flatten_nil, List.append_nil, List.cons_append, List.nil_append]
  after_results
  pointwise
  rfl

theorem V_w (k : Fin 1024) (n : Fin 2944) : V m c main_v14 (ix2 k n) = InSpec.widened (w m c) k n.val := by
  simp only [V, hostOps0, hostOps0_1, hostOps0_2, List.flatten_cons, List.flatten_nil, List.append_nil, List.cons_append, List.nil_append]
  after_results
  simp only [StableHlo.TRef.toBuf, StableHlo.TRef.ofBuf, cast_eq, id_eq]
  pointwise
  unfold InSpec.widened
  split_ifs
  · rfl
  · exact zero_word

/-! ## The blocks a grid point reads -/

theorem idxRow : ∀ t : Fin cfg0.N, win0_0.index t = ![t.val, 0] ∧ win0_1.index t = ![t.val / 4, 0, 0] :=
  (by decide +kernel : ∀ t : Fin grid0.N, _)
theorem idxFull : ∀ t : Fin cfg0.N, win0_2.index t = ![0, 0] ∧ win0_3.index t = ![0, 0] :=
  (by decide +kernel : ∀ t : Fin grid0.N, _)
theorem ptLt (t : Fin cfg0.N) : t.val < 64 := lt_of_lt_of_eq t.isLt N_0

/-- Row `i` of point `t`'s block, among all rows. -/
def rowAt (t : Fin cfg0.N) (i : Fin 512) : Fin 32768 := ⟨512 * t.val + i.val, by have := ptLt t; omega⟩

theorem blk0 (t : Fin cfg0.N) (i : Fin 512) (k : Fin 1024) : iblk m c 0 t (ix2 i k) = x m c (InSpec.seqOf (rowAt t i)) (InSpec.tokOf (rowAt t i)) k := by
  have ht := ptLt t
  refine Eq.trans (b := V m c main_v8 (ix2 (rowAt t i) k)) ?_ (V_x m c _ _)
  unfold rowAt
  blk_ext [iblk, idxRow t]

theorem blk1 (t : Fin cfg0.N) (i : Fin 512) (j : Fin 6) (k : Fin 1024) : iblk m c 1 t (ix3 0 j k) = md m c (InSpec.seqOf (rowAt t i)) j k := by
  have ht := ptLt t
  have e : InSpec.seqOf (rowAt t i) = ⟨t.val / 4, by omega⟩ := Fin.ext (by show (512 * t.val + i.val) / 2048 = t.val / 4; omega)
  rw [e]
  refine Eq.trans (b := V m c main_v10 (ix3 ⟨t.val / 4, by omega⟩ j k)) ?_ (V_md m c _ _ _)
  blk_ext [iblk, idxRow t]

theorem blk2 (t : Fin cfg0.N) (k : Fin 1024) : iblk m c 2 t (ix2 0 k) = g m c k := by
  refine Eq.trans (b := V m c main_v22 (ix2 0 k)) ?_ (V_g m c _)
  blk_ext [iblk, idxFull t]

theorem blk3 (t : Fin cfg0.N) (k : Fin 1024) (n : Fin 2944) : iblk m c 3 t (ix2 k n) = InSpec.widened (w m c) k n.val := by
  refine Eq.trans (b := V m c main_v14 (ix2 k n)) ?_ (V_w m c _ _)
  blk_ext [iblk, idxFull t]

/-! ## What a grid point computes -/

/-- The projection as the kernel's arguments give it. -/
abbrev proj (r : Fin 32768) (n : ℕ) : EReal := InSpec.proj (x m c) (md m c) (g m c) (w m c) r n

/-- The normalized row of a point's block. -/
theorem row_at (t : Fin cfg0.N) (i : Fin 512) (k : Fin 1024) :
    k0_pay3 (F := Ideal) (View.ld (iblk m c 1 t) r0_0) (View.ld (iblk m c 0 t) r0_1) (View.ld (iblk m c 2 t) r0_2) (ix2 i k)
      = InSpec.normed (x m c (InSpec.seqOf (rowAt t i)) (InSpec.tokOf (rowAt t i))) (g m c) (md m c (InSpec.seqOf (rowAt t i)) 1) (md m c (InSpec.seqOf (rowAt t i)) 0) k := by
  refine (normed_at _ _ _ i k).trans ?_
  have e0 : (fun k => View.ld (iblk m c 0 t) r0_1 (ix2 i k)) = x m c (InSpec.seqOf (rowAt t i)) (InSpec.tokOf (rowAt t i)) := funext fun k => (ld_x _ i k).trans (blk0 m c t i k)
  have e1 : ∀ j, (fun k => View.ld (iblk m c 1 t) r0_0 (ix3 0 j k)) = md m c (InSpec.seqOf (rowAt t i)) j := fun j => funext fun k => (ld_md _ j k).trans (blk1 m c t i j k)
  have e2 : (fun k => View.ld (iblk m c 2 t) r0_2 (ix2 0 k)) = g m c := funext fun k => (ld_g _ k).trans (blk2 m c t k)
  rw [e0, e1, e1, e2]

theorem tail_out (t : Fin cfg0.N) (i : Fin 512) (n : Fin 896) :
    k0_pay4 (F := Ideal) (View.ld (iblk m c 1 t) r0_0) (View.ld (iblk m c 0 t) r0_1) (View.ld (iblk m c 2 t) r0_2) (View.ld (iblk m c 3 t) r0_3) (ix2 i n)
      = proj m c (rowAt t i) (2048 + n.val) :=
  (tail_at _ _ _ _ i n).trans (Finset.sum_congr rfl fun k _ => congrArg₂ (· * ·) (row_at m c t i k) ((ld_tail _ k n).trans (blk3 m c t k _)))

theorem out8_at (t : Fin cfg0.N) (i : Fin 512) (n : Fin 1024) :
    out0_8 (iblk m c 0 t) (iblk m c 1 t) (iblk m c 2 t) (iblk m c 3 t) (iblk m c 4 t) (iblk m c 5 t) (iblk m c 6 t) (iblk m c 7 t) (ix2 i n) = proj m c (rowAt t i) n.val := by
  unfold out0_8
  exact (canon_head _ _).trans ((head_at _ _ _ _ i n).trans (Finset.sum_congr rfl fun k _ => congrArg₂ (· * ·) (row_at m c t i k) ((ld_head _ k n).trans (blk3 m c t k _))))

theorem out9_at (t : Fin cfg0.N) (i n : Fin 512) :
    out0_9 (iblk m c 0 t) (iblk m c 1 t) (iblk m c 2 t) (iblk m c 3 t) (iblk m c 4 t) (iblk m c 5 t) (iblk m c 6 t) (iblk m c 7 t) (ix2 i n) = proj m c (rowAt t i) (1024 + n.val) := by
  unfold out0_9 k0_pay37
  exact (canon_mid _ _).trans ((mid_at _ _ i n).trans (Finset.sum_congr rfl fun k _ => congrArg₂ (· * ·) (row_at m c t i k) ((ld_mid _ k n).trans (blk3 m c t k _))))

/-- A slice of the tail, `o` columns in. -/
theorem slice_out (t : Fin cfg0.N) (i : Fin 512) (n : Fin 128) (o : ℕ) (ho : o + 128 ≤ 896) (q : S512x896.Idx) (q0 : (q 0).val = i.val) (q1 : (q 1).val = n.val + o) :
    k0_pay4 (F := Ideal) (View.ld (iblk m c 1 t) r0_0) (View.ld (iblk m c 0 t) r0_1) (View.ld (iblk m c 2 t) r0_2) (View.ld (iblk m c 3 t) r0_3) q
      = proj m c (rowAt t i) (2048 + (n.val + o)) := by
  have e : q = ix2 i ⟨n.val + o, by omega⟩ := funext fun a => Fin.ext (by fin_cases a <;> [exact q0; exact q1])
  rw [e]
  exact tail_out m c t i _

theorem out10_at (t : Fin cfg0.N) (i : Fin 512) (n : Fin 128) :
    out0_10 (iblk m c 0 t) (iblk m c 1 t) (iblk m c 2 t) (iblk m c 3 t) (iblk m c 4 t) (iblk m c 5 t) (iblk m c 6 t) (iblk m c 7 t) (ix2 i n) = proj m c (rowAt t i) (2048 + (n.val + 0)) :=
  (canon10_eq _ _ _ _ _).trans (slice_out m c t i n 0 (by omega) _ rfl rfl)
theorem out11_at (t : Fin cfg0.N) (i : Fin 512) (n : Fin 128) :
    out0_11 (iblk m c 0 t) (iblk m c 1 t) (iblk m c 2 t) (iblk m c 3 t) (iblk m c 4 t) (iblk m c 5 t) (iblk m c 6 t) (iblk m c 7 t) (ix2 i n) = proj m c (rowAt t i) (2048 + (n.val + 128)) :=
  (canon11_eq _ _ _ _ _).trans (slice_out m c t i n 128 (by omega) _ rfl rfl)
theorem out12_at (t : Fin cfg0.N) (i : Fin 512) (n : Fin 128) :
    out0_12 (iblk m c 0 t) (iblk m c 1 t) (iblk m c 2 t) (iblk m c 3 t) (iblk m c 4 t) (iblk m c 5 t) (iblk m c 6 t) (iblk m c 7 t) (ix2 i n) = proj m c (rowAt t i) (2048 + (n.val + 768)) :=
  (canon12_eq _ _ _ _ _).trans (slice_out m c t i n 768 (by omega) _ rfl rfl)
theorem out15_at (t : Fin cfg0.N) (i : Fin 512) (n : Fin 128) :
    out0_15 (iblk m c 0 t) (iblk m c 1 t) (iblk m c 2 t) (iblk m c 3 t) (iblk m c 4 t) (iblk m c 5 t) (iblk m c 6 t) (iblk m c 7 t) (ix2 i n) = proj m c (rowAt t i) (2048 + (n.val + 384)) :=
  (canon15_eq _ _ _ _ _).trans (slice_out m c t i n 384 (by omega) _ rfl rfl)
theorem out17_at (t : Fin cfg0.N) (i : Fin 512) (n : Fin 128) :
    out0_17 (iblk m c 0 t) (iblk m c 1 t) (iblk m c 2 t) (iblk m c 3 t) (iblk m c 4 t) (iblk m c 5 t) (iblk m c 6 t) (iblk m c 7 t) (ix2 i n) = proj m c (rowAt t i) (2048 + (n.val + 640)) :=
  (canon17_eq _ _ _ _ _).trans (slice_out m c t i n 640 (by omega) _ rfl rfl)

/-! ## The arrays after the run -/

theorem idxOut : ∀ t : Fin cfg0.N, win0_8.index t = ![t.val, 0] ∧ win0_9.index t = ![t.val, 0] ∧ win0_10.index t = ![t.val, 0] ∧ win0_11.index t = ![t.val, 0]
    ∧ win0_12.index t = ![t.val, 0] ∧ win0_15.index t = ![t.val, 0] ∧ win0_17.index t = ![t.val, 0] :=
  (by decide +kernel : ∀ t : Fin grid0.N, _)

/-- Every row is a row of some point's block. -/
theorem row_cases (r : Fin 32768) : ∃ (t : Fin cfg0.N) (i : Fin 512), r = rowAt t i :=
  ⟨⟨r.val / 512, lt_of_lt_of_eq (by omega) N_0.symm⟩, ⟨r.val % 512, by omega⟩, Fin.ext (by show r.val = 512 * (r.val / 512) + r.val % 512; omega)⟩

theorem final8 (r : Fin 32768) (n : Fin 1024) : (dats m 0 c).arrAt 8 cfg0.N (ix2 r n) = proj m c r n.val := by
  obtain ⟨t, i, rfl⟩ := row_cases r
  refine Eq.trans ?_ ((congrFun ((blocks8 m c t (flush0_8 t)).trans (flushed8 m c t)) (ix2 i n)).trans (out8_at m c t i n))
  generalize (dats m 0 c).arrAt 8 cfg0.N = A
  have ht := ptLt t
  unfold rowAt
  symm
  blk_ext [idxOut t]

theorem final9 (r : Fin 32768) (n : Fin 512) : (dats m 0 c).arrAt 9 cfg0.N (ix2 r n) = proj m c r (1024 + n.val) := by
  obtain ⟨t, i, rfl⟩ := row_cases r
  refine Eq.trans ?_ ((congrFun ((blocks9 m c t (flush0_9 t)).trans (flushed9 m c t)) (ix2 i n)).trans (out9_at m c t i n))
  generalize (dats m 0 c).arrAt 9 cfg0.N = A
  have ht := ptLt t
  unfold rowAt
  symm
  blk_ext [idxOut t]

theorem final10 (r : Fin 32768) (n : Fin 128) : (dats m 0 c).arrAt 10 cfg0.N (ix2 r n) = proj m c r (2048 + (n.val + 0)) := by
  obtain ⟨t, i, rfl⟩ := row_cases r
  refine Eq.trans ?_ ((congrFun ((blocks10 m c t (flush0_10 t)).trans (flushed10 m c t)) (ix2 i n)).trans (out10_at m c t i n))
  generalize (dats m 0 c).arrAt 10 cfg0.N = A
  have ht := ptLt t
  unfold rowAt
  symm
  blk_ext [idxOut t]

theorem final11 (r : Fin 32768) (n : Fin 128) : (dats m 0 c).arrAt 11 cfg0.N (ix2 r n) = proj m c r (2048 + (n.val + 128)) := by
  obtain ⟨t, i, rfl⟩ := row_cases r
  refine Eq.trans ?_ ((congrFun ((blocks11 m c t (flush0_11 t)).trans (flushed11 m c t)) (ix2 i n)).trans (out11_at m c t i n))
  generalize (dats m 0 c).arrAt 11 cfg0.N = A
  have ht := ptLt t
  unfold rowAt
  symm
  blk_ext [idxOut t]

theorem final12 (r : Fin 32768) (n : Fin 128) : (dats m 0 c).arrAt 12 cfg0.N (ix2 r n) = proj m c r (2048 + (n.val + 768)) := by
  obtain ⟨t, i, rfl⟩ := row_cases r
  refine Eq.trans ?_ ((congrFun ((blocks12 m c t (flush0_12 t)).trans (flushed12 m c t)) (ix2 i n)).trans (out12_at m c t i n))
  generalize (dats m 0 c).arrAt 12 cfg0.N = A
  have ht := ptLt t
  unfold rowAt
  symm
  blk_ext [idxOut t]

theorem final15 (r : Fin 32768) (n : Fin 128) : (dats m 0 c).arrAt 15 cfg0.N (ix2 r n) = proj m c r (2048 + (n.val + 384)) := by
  obtain ⟨t, i, rfl⟩ := row_cases r
  refine Eq.trans ?_ ((congrFun ((blocks15 m c t (flush0_15 t)).trans (flushed15 m c t)) (ix2 i n)).trans (out15_at m c t i n))
  generalize (dats m 0 c).arrAt 15 cfg0.N = A
  have ht := ptLt t
  unfold rowAt
  symm
  blk_ext [idxOut t]

theorem final17 (r : Fin 32768) (n : Fin 128) : (dats m 0 c).arrAt 17 cfg0.N (ix2 r n) = proj m c r (2048 + (n.val + 640)) := by
  obtain ⟨t, i, rfl⟩ := row_cases r
  refine Eq.trans ?_ ((congrFun ((blocks17 m c t (flush0_17 t)).trans (flushed17 m c t)) (ix2 i n)).trans (out17_at m c t i n))
  generalize (dats m 0 c).arrAt 17 cfg0.N = A
  have ht := ptLt t
  unfold rowAt
  symm
  blk_ext [idxOut t]

end Cert.Kernel3Ideal.In

end
-- ==== Proof.InRef.lean ====
module

public import proofs.«01_k».proof.Proof.InSpec
public import proofs.«01_k».proof.Proof.Gen.Reference3Ideal.Read

@[expose] public section
set_option maxRecDepth 16384
noncomputable section

/-! The reference of the input projection, entry by entry. -/

namespace Cert.Reference3Ideal.In
open Cert.Reference3Ideal Cert.Reference3Ideal.Gen Cert.Reference3Ideal.Read Idealize.ShloMosaic Idealize.ShloMosaic.TcCoe Idealize.SL.Sem
variable (x0 : (⟨S16x2048x1024, .f32⟩ : BufTy).Contents (Elt Ideal)) (x1 : (⟨S2x16x6x1024, .f32⟩ : BufTy).Contents (Elt Ideal))
  (x4 : (⟨S2x1024, .f32⟩ : BufTy).Contents (Elt Ideal)) (x5 : (⟨S2x1024x2840, .f32⟩ : BufTy).Contents (Elt Ideal))

theorem normed_at (b : Fin 16) (s : Fin 2048) (k : Fin 1024) : val_main_v26 (F := Ideal) x0 x1 x4 (ix3 b s k) =
    InSpec.normed (fun k => x0 (ix3 b s k)) (fun k => x4 (ix2 0 k)) (fun k => x1 (ix4 0 b 1 k)) (fun k => x1 (ix4 0 b 0 k)) k := by
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The projection as the reference's arguments give it. -/
abbrev proj (r : Fin 32768) (n : ℕ) : EReal :=
  InSpec.proj (fun b s k => x0 (ix3 b s k)) (fun b j k => x1 (ix4 0 b j k)) (fun k => x4 (ix2 0 k)) (fun k n => x5 (ix3 0 k n)) r n

theorem z_at (b : Fin 16) (s : Fin 2048) (n : Fin 2840) : val_main_v29 (F := Ideal) x0 x1 x4 x5 (ix3 b s n) =
    ∑ k, val_main_v26 (F := Ideal) x0 x1 x4 (ix3 b s k) * x5 (ix3 0 k n) := by
  unfold val_main_v29
  generalize val_main_v26 (F := Ideal) x0 x1 x4 = h
  pointwise [val_main_v28, val_main_v27]

/-- Column `n` of row `r`, wherever the reference reads it. -/
theorem z_row (r : Fin 32768) (n : Fin 2840) (b : Fin 16) (s : Fin 2048) (hb : b.val = r.val / 2048) (hs : s.val = r.val % 2048) :
    val_main_v29 (F := Ideal) x0 x1 x4 x5 (ix3 b s n) = proj x0 x1 x4 x5 r n.val := by
  have eb : b = InSpec.seqOf r := Fin.ext hb
  have es : s = InSpec.tokOf r := Fin.ext hs
  subst eb es
  rw [z_at]
  refine Finset.sum_congr rfl fun k _ => ?_
  rw [normed_at]
  refine congrArg _ ?_
  unfold InSpec.widened
  rw [dif_pos n.isLt]

theorem zr_at (r : Fin 32768) (n : Fin 1024) : val_main_v45 (F := Ideal) x0 x1 x4 x5 (ix2 r n) = proj x0 x1 x4 x5 r n.val := by
  unfold val_main_v45 val_main_v44 val_main_v30 val_main_v31 val_main_v32 val_main_v33
  have key := z_row x0 x1 x4 x5 r
  generalize val_main_v29 (F := Ideal) x0 x1 x4 x5 = z at *
  pointwise
  split_ifs <;> refine (key _ _ _ rfl rfl).trans (congrArg _ ?_) <;> dsimp only <;> omega

theorem zg_at (r : Fin 32768) (n : Fin 512) : val_main_v47 (F := Ideal) x0 x1 x4 x5 (ix2 r n) = proj x0 x1 x4 x5 r (1024 + n.val) := by
  unfold val_main_v47 val_main_v46 val_main_v34 val_main_v35
  have key := z_row x0 x1 x4 x5 r
  generalize val_main_v29 (F := Ideal) x0 x1 x4 x5 = z at *
  pointwise
  split_ifs <;> refine (key _ _ _ rfl rfl).trans (congrArg _ ?_) <;> dsimp only <;> omega

theorem zkc_at (r : Fin 32768) (n : Fin 128) : val_main_v48 (F := Ideal) x0 x1 x4 x5 (ix2 r n) = proj x0 x1 x4 x5 r (2048 + (n.val + 0)) := by
  unfold val_main_v48 val_main_v37
  have key := z_row x0 x1 x4 x5 r
  generalize val_main_v29 (F := Ideal) x0 x1 x4 x5 = z at *
  pointwise
  refine (key _ _ _ rfl rfl).trans (congrArg _ ?_) <;> dsimp only <;> omega

theorem zvc_at (r : Fin 32768) (n : Fin 128) : val_main_v49 (F := Ideal) x0 x1 x4 x5 (ix2 r n) = proj x0 x1 x4 x5 r (2048 + (n.val + 128)) := by
  unfold val_main_v49 val_main_v38
  have key := z_row x0 x1 x4 x5 r
  generalize val_main_v29 (F := Ideal) x0 x1 x4 x5 = z at *
  pointwise
  refine (key _ _ _ rfl rfl).trans (congrArg _ ?_) <;> dsimp only <;> omega

theorem vs_at (r : Fin 32768) (n : Fin 128) : val_main_v53 (F := Ideal) x0 x1 x4 x5 (ix2 r n) = proj x0 x1 x4 x5 r (2048 + (n.val + 384)) := by
  unfold val_main_v53 val_main_v52 val_main_v40
  have key := z_row x0 x1 x4 x5 r
  generalize val_main_v29 (F := Ideal) x0 x1 x4 x5 = z at *
  pointwise
  refine (key _ _ _ rfl rfl).trans (congrArg _ ?_) <;> dsimp only <;> omega

theorem vw_at (r : Fin 32768) (n : Fin 128) : val_main_v55 (F := Ideal) x0 x1 x4 x5 (ix2 r n) = proj x0 x1 x4 x5 r (2048 + (n.val + 640)) := by
  unfold val_main_v55 val_main_v54 val_main_v42
  have key := z_row x0 x1 x4 x5 r
  generalize val_main_v29 (F := Ideal) x0 x1 x4 x5 = z at *
  pointwise
  refine (key _ _ _ rfl rfl).trans (congrArg _ ?_) <;> dsimp only <;> omega

/-- Past the weight matrix's last column the projection is zero. -/
theorem proj_past (r : Fin 32768) (n : ℕ) (h : ¬ n < 2840) : proj x0 x1 x4 x5 r n = 0 := by
  refine Finset.sum_eq_zero fun k _ => ?_
  unfold InSpec.widened
  rw [dif_neg h, mul_zero]

theorem zgl_at (r : Fin 32768) (n : Fin 128) : val_main_v51 (F := Ideal) x0 x1 x4 x5 (ix2 r n) = proj x0 x1 x4 x5 r (2048 + (n.val + 768)) := by
  unfold val_main_v51 val_main_v50 val_main_v43 val_main_call0_v0 val_main_c
  have key := z_row x0 x1 x4 x5 r
  have past := proj_past x0 x1 x4 x5 r
  generalize val_main_v29 (F := Ideal) x0 x1 x4 x5 = z at *
  pointwise
  split_ifs
  · refine (key _ _ _ rfl rfl).trans (congrArg _ ?_) <;> dsimp only <;> omega
  · rw [past _ (by omega)]
    show ((((0#32 : BitVec 32).toInt : ℤ) : ℝ) : EReal) = 0
    simp

end Cert.Reference3Ideal.In

end
-- ==== Proof.InClaim.lean ====
module

public import proofs.«01_k».proof.Defs
public import proofs.«01_k».proof.Proof.InVal
public import proofs.«01_k».proof.Proof.InRef
public import proofs.«01_k».proof.Proof.Gen.Kernel3
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import Idealize.ShloMosaic.Init

@[expose] public section
set_option maxRecDepth 16384
noncomputable section

/-! The claims about the input projection: the reference's run, and its equality with the exact kernel. -/

namespace Cert.InClaim
open Idealize.ShloMosaic Idealize.ShloMosaic.TcCoe Idealize.SL.Sem

/-- The reference runs, keeps its arguments, and declares no semaphore. -/
theorem frame_r : Cert.quiescent_Reference3Ideal (hReference3Ideal := Cert.Reference3Ideal.Gen.facts) := by
  intro m ρ _
  exact (θ_run Cert.Reference3Ideal.defs _ _).mono
    (fun r h => ⟨fun c => (h c).2.2.2.2.2.2.2, Idealize.ShloMosaic.sem_eq_zero_of_no_sems (by decide) r.2⟩)
    (Cert.Reference3Ideal.Value.run (F := Ideal) m ρ)

/-- Two arrays of rows that agree entry by entry are equal. -/
theorem by_rows {a b : ℕ} {α : Type} (f g : (⟨2, ![a, b]⟩ : Shape).Idx → α) (h : ∀ (r : Fin a) (n : Fin b), f (ix2 r n) = g (ix2 r n)) : f = g :=
  funext fun i => by
    have e : i = ix2 (i 0) (i 1) := funext fun k => by fin_cases k <;> rfl
    rw [e]
    exact h _ _

variable (m : (ℓ : Loc Cert.Kernel3Ideal.nD Cert.Kernel3Ideal.τ Cert.Kernel3Ideal.sig) → Buf (Elt Ideal) ℓ) (c : Dev Cert.Kernel3Ideal.nD)

/-! Over one set of arguments each of the reference's results is the kernel's. -/
theorem zr_eq : Cert.Reference3Ideal.Read.val_main_v45 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) = (Cert.Kernel3Ideal.Gen.dats m 0 c).arrAt 8 Cert.Kernel3Ideal.cfg0.N :=
  by_rows _ _ fun r n => (Cert.Reference3Ideal.In.zr_at _ _ _ _ r n).trans (Cert.Kernel3Ideal.In.final8 m c r n).symm
theorem zg_eq : Cert.Reference3Ideal.Read.val_main_v47 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) = (Cert.Kernel3Ideal.Gen.dats m 0 c).arrAt 9 Cert.Kernel3Ideal.cfg0.N :=
  by_rows _ _ fun r n => (Cert.Reference3Ideal.In.zg_at _ _ _ _ r n).trans (Cert.Kernel3Ideal.In.final9 m c r n).symm
theorem zkc_eq : Cert.Reference3Ideal.Read.val_main_v48 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) = (Cert.Kernel3Ideal.Gen.dats m 0 c).arrAt 10 Cert.Kernel3Ideal.cfg0.N :=
  by_rows _ _ fun r n => (Cert.Reference3Ideal.In.zkc_at _ _ _ _ r n).trans (Cert.Kernel3Ideal.In.final10 m c r n).symm
theorem zvc_eq : Cert.Reference3Ideal.Read.val_main_v49 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) = (Cert.Kernel3Ideal.Gen.dats m 0 c).arrAt 11 Cert.Kernel3Ideal.cfg0.N :=
  by_rows _ _ fun r n => (Cert.Reference3Ideal.In.zvc_at _ _ _ _ r n).trans (Cert.Kernel3Ideal.In.final11 m c r n).symm
theorem zgl_eq : Cert.Reference3Ideal.Read.val_main_v51 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) = (Cert.Kernel3Ideal.Gen.dats m 0 c).arrAt 12 Cert.Kernel3Ideal.cfg0.N :=
  by_rows _ _ fun r n => (Cert.Reference3Ideal.In.zgl_at _ _ _ _ r n).trans (Cert.Kernel3Ideal.In.final12 m c r n).symm
theorem vs_eq : Cert.Reference3Ideal.Read.val_main_v53 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) = (Cert.Kernel3Ideal.Gen.dats m 0 c).arrAt 15 Cert.Kernel3Ideal.cfg0.N :=
  by_rows _ _ fun r n => (Cert.Reference3Ideal.In.vs_at _ _ _ _ r n).trans (Cert.Kernel3Ideal.In.final15 m c r n).symm
theorem vw_eq : Cert.Reference3Ideal.Read.val_main_v55 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) = (Cert.Kernel3Ideal.Gen.dats m 0 c).arrAt 17 Cert.Kernel3Ideal.cfg0.N :=
  by_rows _ _ fun r n => (Cert.Reference3Ideal.In.vw_at _ _ _ _ r n).trans (Cert.Kernel3Ideal.In.final17 m c r n).symm

set_option maxHeartbeats 2000000 in
/-- From equal arguments the exact kernel and the reference both run and end with equal results. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N,
    fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 15 Cert.Kernel3Ideal.cfg0.N,
    fun c => (Cert.Kernel3Ideal.Gen.dats m 0 c).arrAt 17 Cert.Kernel3Ideal.cfg0.N,
    (θ_run Cert.Kernel3Ideal.defs _ _).mono (fun r h c => ?_) (Cert.Kernel3Ideal.Value.run_blocks (F := Ideal) m ρ),
    (θ_run Cert.Reference3Ideal.defs _ _).mono (fun r h c => ⟨?_, ?_, ?_, ?_, ?_, ?_, ?_, (h c).2.2.2.2.2.2.2⟩) (Cert.Reference3Ideal.Value.run (F := Ideal) m' ρ')⟩
  · obtain ⟨h8, h9, h10, h11, h12, _, _, h15, _, h17, hk⟩ := h c
    exact ⟨h8, h9, h10, h11, h12, h15, h17, hk⟩
  · refine ((h c).1.trans (Cert.Reference3Ideal.Read.val_main_v45_eq (F := Ideal) _ _)).trans (Eq.trans ?_ (zr_eq m c))
    rw [← (hag c).1, ← (hag c).2.1, ← (hag c).2.2.2.2.1, ← (hag c).2.2.2.2.2.1]
  · refine ((h c).2.1.trans (Cert.Reference3Ideal.Read.val_main_v47_eq (F := Ideal) _ _)).trans (Eq.trans ?_ (zg_eq m c))
    rw [← (hag c).1, ← (hag c).2.1, ← (hag c).2.2.2.2.1, ← (hag c).2.2.2.2.2.1]
  · refine ((h c).2.2.1.trans (Cert.Reference3Ideal.Read.val_main_v48_eq (F := Ideal) _ _ _ _)).trans (Eq.trans ?_ (zkc_eq m c))
    rw [← (hag c).1, ← (hag c).2.1, ← (hag c).2.2.2.2.1, ← (hag c).2.2.2.2.2.1]
  · refine ((h c).2.2.2.1.trans (Cert.Reference3Ideal.Read.val_main_v49_eq (F := Ideal) _ _ _ _)).trans (Eq.trans ?_ (zvc_eq m c))
    rw [← (hag c).1, ← (hag c).2.1, ← (hag c).2.2.2.2.1, ← (hag c).2.2.2.2.2.1]
  · refine ((h c).2.2.2.2.1.trans (Cert.Reference3Ideal.Read.val_main_v51_eq (F := Ideal) _ _ _ _)).trans (Eq.trans ?_ (zgl_eq m c))
    rw [← (hag c).1, ← (hag c).2.1, ← (hag c).2.2.2.2.1, ← (hag c).2.2.2.2.2.1]
  · refine ((h c).2.2.2.2.2.1.trans (Cert.Reference3Ideal.Read.val_main_v53_eq (F := Ideal) _ _ _ _)).trans (Eq.trans ?_ (vs_eq m c))
    rw [← (hag c).1, ← (hag c).2.1, ← (hag c).2.2.2.2.1, ← (hag c).2.2.2.2.2.1]
  · refine ((h c).2.2.2.2.2.2.1.trans (Cert.Reference3Ideal.Read.val_main_v55_eq (F := Ideal) _ _ _ _)).trans (Eq.trans ?_ (vw_eq m c))
    rw [← (hag c).1, ← (hag c).2.1, ← (hag c).2.2.2.2.1, ← (hag c).2.2.2.2.2.1]

end Cert.InClaim

end
-- ==== Proof.OutSpec.lean ====
module

public import proofs.«01_k».proof.Proof.InSpec
public import Idealize.ShloMosaic.Lib.Pointwise

@[expose] public section
noncomputable section

/-! What the output projection computes, as plain functions of its arguments' entries. -/

namespace Cert.OutSpec
open Idealize.ShloMosaic

/-- The three mixers' outputs for one row, laid side by side. -/
def joined (a b : Fin 256 → EReal) (d : Fin 512 → EReal) (k : Fin 1024) : EReal :=
  if h : k.val < 256 then a ⟨k.val, h⟩ else if h' : k.val - 256 < 256 then b ⟨k.val - 256, h'⟩ else d ⟨k.val - 512, by omega⟩

/-- A sum over the joined row is the three sums over its parts. -/
theorem sum_joined (a b : Fin 256 → EReal) (d : Fin 512 → EReal) (w : Fin 1024 → EReal) :
    ∑ k, joined a b d k * w k
      = (∑ k, a k * w ⟨k.val, by omega⟩) + (∑ k, b k * w ⟨256 + k.val, by omega⟩) + ∑ k, d k * w ⟨512 + k.val, by omega⟩ := by
  have e := Fin.sum_univ_add (a := 512) (b := 512) (fun k : Fin 1024 => joined a b d k * w k)
  have e' := Fin.sum_univ_add (a := 256) (b := 256) (fun k : Fin 512 => joined a b d (Fin.castAdd 512 k) * w (Fin.castAdd 512 k))
  refine e.trans (congrArg₂ (· + ·) (e'.trans (congrArg₂ (· + ·) ?_ ?_)) ?_) <;> refine Finset.sum_congr rfl fun k _ => ?_
  · refine congrArg₂ (· * ·) ?_ rfl
    exact dif_pos k.isLt
  · refine congrArg₂ (· * ·) ?_ rfl
    refine (dif_neg (show ¬ 256 + k.val < 256 by omega)).trans ((dif_pos (show 256 + k.val - 256 < 256 by omega)).trans (congrArg b (Fin.ext ?_)))
    show 256 + k.val - 256 = k.val
    omega
  · refine congrArg₂ (· * ·) ?_ rfl
    refine (dif_neg (show ¬ 512 + k.val < 256 by omega)).trans ((dif_neg (show ¬ 512 + k.val - 256 < 256 by omega)).trans (congrArg d (Fin.ext ?_)))
    show 512 + k.val - 512 = k.val
    omega

/-- Column `n` of the new row: the old row plus the gated projection of the mixers' outputs. -/
def mixed (a b : Fin 256 → EReal) (d : Fin 512 → EReal) (x gate : Fin 1024 → EReal) (w : Fin 1024 → Fin 1024 → EReal) (n : Fin 1024) : EReal :=
  x n + gate n * ∑ k, joined a b d k * w k n

end Cert.OutSpec

end
-- ==== Proof.OutVal.lean ====
module

public import proofs.«01_k».proof.Proof.OutSpec
public import proofs.«01_k».proof.Proof.Gen.Kernel4Ideal.Value
public import Idealize.ShloMosaic.Lib.Pointwise
public import Idealize.ShloMosaic.Lib.Pipeline.ValueKit

@[expose] public section
set_option maxRecDepth 16384
noncomputable section

/-! The output projection's blocks and its new rows, entry by entry. -/

namespace Cert.Kernel4Ideal.Out
open Cert.Kernel4Ideal Cert.Kernel4Ideal.Gen Cert.Kernel4Ideal.Value Idealize.ShloMosaic Idealize.ShloMosaic.TcCoe Idealize.SL.Sem

/-! ## The body's value over arbitrary blocks -/

theorem body_at (v0 : Vec Ideal S1x6x1024 .f32) (v2 : Vec Ideal S512x256 .bf16) (v4 : Vec Ideal S256x1024 .bf16) (v7 : Vec Ideal S512x256 .bf16)
    (v9 : Vec Ideal S256x1024 .bf16) (v13 : Vec Ideal S512x512 .bf16) (v14 : Vec Ideal S512x1024 .bf16) (v18 : Vec Ideal S512x1024 .f32) (i : Fin 512) (n : Fin 1024) :
    k0_pay3 (F := Ideal) v0 v2 v4 v7 v9 v13 v14 v18 (ix2 i n) =
      v18 (ix2 i n) + v0 (ix3 0 2 n) * ((∑ k, v2 (ix2 i k) * v4 (ix2 k n)) + (∑ k, v7 (ix2 i k) * v9 (ix2 k n)) + ∑ k, v13 (ix2 i k) * v14 (ix2 k n)) := by
  pointwise [k0_pay3, k0_pay2]

/-! ## The arguments as plain functions, and the arrays the host prepares -/
variable (m : (ℓ : Loc nD τ sig) → Buf (Elt Ideal) ℓ) (c : Dev nD)

def a (b : Fin 16) (s : Fin 2048) (k : Fin 256) : EReal := m ((c : Thread nD τ).loc main_arg0) (ix3 b s k)
def b (b : Fin 16) (s : Fin 2048) (k : Fin 256) : EReal := m ((c : Thread nD τ).loc main_arg1) (ix3 b s k)
def d (r : Fin 32768) (k : Fin 512) : EReal := m ((c : Thread nD τ).loc main_arg2) (ix2 r k)
def x (b : Fin 16) (s : Fin 2048) (k : Fin 1024) : EReal := m ((c : Thread nD τ).loc main_arg3) (ix3 b s k)
def md (b : Fin 16) (j : Fin 6) (k : Fin 1024) : EReal := m ((c : Thread nD τ).loc main_arg4) (ix4 0 b j k)
def w (k n : Fin 1024) : EReal := m ((c : Thread nD τ).loc main_arg5) (ix3 0 k n)

theorem V_a (r : Fin 32768) (k : Fin 256) : V m c main_v13 (ix2 r k) = a m c (InSpec.seqOf r) (InSpec.tokOf r) k := by
  simp only [V, hostOps0]
  after_results
  pointwise
  rfl

theorem V_b (r : Fin 32768) (k : Fin 256) : V m c main_v14 (ix2 r k) = b m c (InSpec.seqOf r) (InSpec.tokOf r) k := by
  simp only [V, hostOps0]
  after_results
  pointwise
  rfl

theorem V_d (r : Fin 32768) (k : Fin 512) : V m c main_arg2 (ix2 r k) = d m c r k := by
  simp only [V, hostOps0]
  after_results
  rfl

theorem V_x (r : Fin 32768) (k : Fin 1024) : V m c main_v10 (ix2 r k) = x m c (InSpec.seqOf r) (InSpec.tokOf r) k := by
  simp only [V, hostOps0]
  after_results
  pointwise
  rfl

theorem V_md (b : Fin 16) (j : Fin 6) (k : Fin 1024) : V m c main_v12 (ix3 b j k) = md m c b j k := by
  simp only [V, hostOps0]
  after_results
  pointwise
  rfl

theorem V_w (k n : Fin 1024) : V m c main_v17 (ix2 k n) = w m c k n := by
  simp only [V, hostOps0]
  after_results
  pointwise
  rfl

/-! ## The blocks a grid point reads -/

theorem idxRow : ∀ t : Fin cfg0.N, win0_0.index t = ![t.val, 0] ∧ win0_1.index t = ![t.val, 0] ∧ win0_2.index t = ![t.val, 0] ∧ win0_3.index t = ![t.val, 0]
    ∧ win0_4.index t = ![t.val / 4, 0, 0] ∧ win0_5.index t = ![0, 0] ∧ win0_9.index t = ![t.val, 0] :=
  (by decide +kernel : ∀ t : Fin grid0.N, _)
theorem ptLt (t : Fin cfg0.N) : t.val < 64 := lt_of_lt_of_eq t.isLt N_0

/-- Row `i` of point `t`'s block, among all rows. -/
def rowAt (t : Fin cfg0.N) (i : Fin 512) : Fin 32768 := ⟨512 * t.val + i.val, by have := ptLt t; omega⟩

theorem blk0 (t : Fin cfg0.N) (i : Fin 512) (k : Fin 256) : iblk m c 0 t (ix2 i k) = a m c (InSpec.seqOf (rowAt t i)) (InSpec.tokOf (rowAt t i)) k := by
  have ht := ptLt t
  refine Eq.trans (b := V m c main_v13 (ix2 (rowAt t i) k)) ?_ (V_a m c _ _)
  unfold rowAt
  blk_ext [iblk, idxRow t]

theorem blk1 (t : Fin cfg0.N) (i : Fin 512) (k : Fin 256) : iblk m c 1 t (ix2 i k) = b m c (InSpec.seqOf (rowAt t i)) (InSpec.tokOf (rowAt t i)) k := by
  have ht := ptLt t
  refine Eq.trans (b := V m c main_v14 (ix2 (rowAt t i) k)) ?_ (V_b m c _ _)
  unfold rowAt
  blk_ext [iblk, idxRow t]

theorem blk2 (t : Fin cfg0.N) (i : Fin 512) (k : Fin 512) : iblk m c 2 t (ix2 i k) = d m c (rowAt t i) k := by
  have ht := ptLt t
  refine Eq.trans (b := V m c main_arg2 (ix2 (rowAt t i) k)) ?_ (V_d m c _ _)
  unfold rowAt
  blk_ext [iblk, idxRow t]

theorem blk3 (t : Fin cfg0.N) (i : Fin 512) (k : Fin 1024) : iblk m c 3 t (ix2 i k) = x m c (InSpec.seqOf (rowAt t i)) (InSpec.tokOf (rowAt t i)) k := by
  have ht := ptLt t
  refine Eq.trans (b := V m c main_v10 (ix2 (rowAt t i) k)) ?_ (V_x m c _ _)
  unfold rowAt
  blk_ext [iblk, idxRow t]

theorem blk4 (t : Fin cfg0.N) (i : Fin 512) (j : Fin 6) (k : Fin 1024) : iblk m c 4 t (ix3 0 j k) = md m c (InSpec.seqOf (rowAt t i)) j k := by
  have ht := ptLt t
  have e : InSpec.seqOf (rowAt t i) = ⟨t.val / 4, by omega⟩ := Fin.ext (by show (512 * t.val + i.val) / 2048 = t.val / 4; omega)
  rw [e]
  refine Eq.trans (b := V m c main_v12 (ix3 ⟨t.val / 4, by omega⟩ j k)) ?_ (V_md m c _ _ _)
  blk_ext [iblk, idxRow t]

theorem blk5 (t : Fin cfg0.N) (k n : Fin 1024) : iblk m c 5 t (ix2 k n) = w m c k n := by
  refine Eq.trans (b := V m c main_v17 (ix2 k n)) ?_ (V_w m c _ _)
  blk_ext [iblk, idxRow t]

/-! ## What a grid point writes -/

/-- The block of new rows is the body's value of the blocks it reads. -/
theorem out_blk (t : Fin cfg0.N) : (outsAt0 m c t).1 =
    k0_pay3 (iblk m c 4 t) (iblk m c 0 t) (View.ld (iblk m c 5 t) (Rect.unit ![0, 0] ![256, 1024] inb_S1024x1024_S256x1024_0_0)) (iblk m c 1 t)
      (View.ld (iblk m c 5 t) (Rect.unit ![256, 0] ![256, 1024] inb_S1024x1024_S256x1024_256_0)) (iblk m c 2 t)
      (View.ld (iblk m c 5 t) (Rect.unit ![512, 0] ![512, 1024] inb_S1024x1024_S512x1024_512_0)) (iblk m c 3 t) := by
  simp only [outsAt0]
  frame_open
  frame_out
  rfl

theorem ld_lo (X : Vec Ideal S1024x1024 .bf16) (k : Fin 256) (n : Fin 1024) :
    View.ld X (Rect.unit ![0, 0] ![256, 1024] inb_S1024x1024_S256x1024_0_0) (ix2 k n) = X (ix2 ⟨k.val, by omega⟩ n) := by pointwise
theorem ld_mid (X : Vec Ideal S1024x1024 .bf16) (k : Fin 256) (n : Fin 1024) :
    View.ld X (Rect.unit ![256, 0] ![256, 1024] inb_S1024x1024_S256x1024_256_0) (ix2 k n) = X (ix2 ⟨256 + k.val, by omega⟩ n) := by pointwise
theorem ld_hi (X : Vec Ideal S1024x1024 .bf16) (k : Fin 512) (n : Fin 1024) :
    View.ld X (Rect.unit ![512, 0] ![512, 1024] inb_S1024x1024_S512x1024_512_0) (ix2 k n) = X (ix2 ⟨512 + k.val, by omega⟩ n) := by pointwise

/-- Column `n` of the new row `r`, as the kernel's arguments give it. -/
abbrev mixed (r : Fin 32768) (n : Fin 1024) : EReal :=
  OutSpec.mixed (a m c (InSpec.seqOf r) (InSpec.tokOf r)) (b m c (InSpec.seqOf r) (InSpec.tokOf r)) (d m c r)
    (x m c (InSpec.seqOf r) (InSpec.tokOf r)) (md m c (InSpec.seqOf r) 2) (w m c) n

theorem out_at (t : Fin cfg0.N) (i : Fin 512) (n : Fin 1024) : (outsAt0 m c t).1 (ix2 i n) = mixed m c (rowAt t i) n := by
  rw [out_blk]
  refine (body_at _ _ _ _ _ _ _ _ i n).trans ?_
  refine congrArg₂ (· + ·) (blk3 m c t i n) (congrArg₂ (· * ·) (blk4 m c t i 2 n) ?_)
  refine Eq.trans ?_ (OutSpec.sum_joined _ _ _ (fun k => w m c k n)).symm
  refine congrArg₂ (· + ·) (congrArg₂ (· + ·) ?_ ?_) ?_ <;> refine Finset.sum_congr rfl fun k _ => congrArg₂ (· * ·) ?_ ?_
  · exact blk0 m c t i k
  · exact (ld_lo _ k n).trans (blk5 m c t _ n)
  · exact blk1 m c t i k
  · exact (ld_mid _ k n).trans (blk5 m c t _ n)
  · exact blk2 m c t i k
  · exact (ld_hi _ k n).trans (blk5 m c t _ n)

/-! ## The array after the run -/

/-- Every row is a row of some point's block. -/
theorem row_cases (r : Fin 32768) : ∃ (t : Fin cfg0.N) (i : Fin 512), r = rowAt t i :=
  ⟨⟨r.val / 512, lt_of_lt_of_eq (by omega) N_0.symm⟩, ⟨r.val % 512, by omega⟩, Fin.ext (by show r.val = 512 * (r.val / 512) + r.val % 512; omega)⟩

theorem final (r : Fin 32768) (n : Fin 1024) : (dats m 0 c).arrAt 9 cfg0.N (ix2 r n) = mixed m c r n := by
  obtain ⟨t, i, rfl⟩ := row_cases r
  refine Eq.trans ?_ ((congrFun ((blocks9 m c t (flush0_9 t)).trans (flushed9 m c t)) (ix2 i n)).trans (out_at m c t i n))
  generalize (dats m 0 c).arrAt 9 cfg0.N = A
  have ht := ptLt t
  unfold rowAt
  symm
  blk_ext [idxRow t]

end Cert.Kernel4Ideal.Out

end
-- ==== Proof.OutRef.lean ====
module

public import proofs.«01_k».proof.Proof.OutSpec
public import proofs.«01_k».proof.Proof.Gen.Reference4Ideal.Read

@[expose] public section
set_option maxRecDepth 16384
noncomputable section

/-! The reference of the output projection, entry by entry. -/

namespace Cert.Reference4Ideal.Out
open Cert.Reference4Ideal Cert.Reference4Ideal.Gen Cert.Reference4Ideal.Read Idealize.ShloMosaic Idealize.ShloMosaic.TcCoe Idealize.SL.Sem
variable (x0 x1 : (⟨S16x2048x256, .bf16⟩ : BufTy).Contents (Elt Ideal)) (x2 : (⟨S32768x512, .bf16⟩ : BufTy).Contents (Elt Ideal))
  (x3 : (⟨S16x2048x1024, .f32⟩ : BufTy).Contents (Elt Ideal)) (x4 : (⟨S2x16x6x1024, .f32⟩ : BufTy).Contents (Elt Ideal))
  (x5 : (⟨S2x1024x1024, .f32⟩ : BufTy).Contents (Elt Ideal))

/-- The joined row, as the reference concatenates it. -/
theorem joined_at (r : Fin 32768) (k : Fin 1024) : val_main_v5 (F := Ideal) x0 x1 x2 (ix3 (InSpec.seqOf r) (InSpec.tokOf r) k) =
    OutSpec.joined (fun k => x0 (ix3 (InSpec.seqOf r) (InSpec.tokOf r) k)) (fun k => x1 (ix3 (InSpec.seqOf r) (InSpec.tokOf r) k)) (fun k => x2 (ix2 r k)) k := by
  pointwise [val_main_v5, val_main_v4, val_main_v3]
  unfold OutSpec.joined
  split_ifs <;> first
    | rfl
    | (refine congrArg x2 (congrArg₂ ix2 (Fin.ext ?_) (Fin.ext ?_)) <;> dsimp only [InSpec.seqOf, InSpec.tokOf] <;> omega)

theorem y_at (b : Fin 16) (s : Fin 2048) (n : Fin 1024) : val_main_v8 (F := Ideal) x0 x1 x2 x5 (ix3 b s n) =
    ∑ k, val_main_v5 (F := Ideal) x0 x1 x2 (ix3 b s k) * x5 (ix3 0 k n) := by
  unfold val_main_v8
  generalize val_main_v5 (F := Ideal) x0 x1 x2 = h
  pointwise [val_main_v7, val_main_v6]

theorem xn_at (r : Fin 32768) (n : Fin 1024) : val_main_v12 (F := Ideal) x0 x1 x2 x3 x4 x5 (ix2 r n) =
    OutSpec.mixed (fun k => x0 (ix3 (InSpec.seqOf r) (InSpec.tokOf r) k)) (fun k => x1 (ix3 (InSpec.seqOf r) (InSpec.tokOf r) k)) (fun k => x2 (ix2 r k))
      (fun k => x3 (ix3 (InSpec.seqOf r) (InSpec.tokOf r) k)) (fun k => x4 (ix4 0 (InSpec.seqOf r) 2 k)) (fun k n => x5 (ix3 0 k n)) n := by
  have key : val_main_v8 (F := Ideal) x0 x1 x2 x5 (ix3 (InSpec.seqOf r) (InSpec.tokOf r) n) =
      ∑ k, OutSpec.joined (fun k => x0 (ix3 (InSpec.seqOf r) (InSpec.tokOf r) k)) (fun k => x1 (ix3 (InSpec.seqOf r) (InSpec.tokOf r) k)) (fun k => x2 (ix2 r k)) k * x5 (ix3 0 k n) :=
    (y_at x0 x1 x2 x5 _ _ n).trans (Finset.sum_congr rfl fun k _ => congrArg (· * _) (joined_at x0 x1 x2 r k))
  unfold val_main_v12 val_main_v11 val_main_v10 OutSpec.mixed
  rw [← key]
  generalize val_main_v8 (F := Ideal) x0 x1 x2 x5 = z
  pointwise [val_main_v9, val_main_v2, val_main_v1, val_main_v0]
  rfl

end Cert.Reference4Ideal.Out

end
-- ==== Proof.OutClaim.lean ====
module

public import proofs.«01_k».proof.Defs
public import proofs.«01_k».proof.Proof.OutVal
public import proofs.«01_k».proof.Proof.OutRef
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init

@[expose] public section
set_option maxRecDepth 16384
noncomputable section

/-! The claims about the output projection: the reference's run, and its equality with the exact kernel. -/

namespace Cert.OutClaim
open Idealize.ShloMosaic Idealize.ShloMosaic.TcCoe Idealize.SL.Sem

/-- The reference runs, keeps its arguments, and declares no semaphore. -/
theorem frame_r : Cert.quiescent_Reference4Ideal (hReference4Ideal := Cert.Reference4Ideal.Gen.facts) := by
  intro m ρ _
  exact (θ_run Cert.Reference4Ideal.defs _ _).mono
    (fun r h => ⟨fun c => (h c).2, Idealize.ShloMosaic.sem_eq_zero_of_no_sems (by decide) r.2⟩)
    (Cert.Reference4Ideal.Value.run (F := Ideal) m ρ)

variable (m : (ℓ : Loc Cert.Kernel4Ideal.nD Cert.Kernel4Ideal.τ Cert.Kernel4Ideal.sig) → Buf (Elt Ideal) ℓ) (c : Dev Cert.Kernel4Ideal.nD)

/-- Over one set of arguments the reference's result is the kernel's. -/
theorem xn_eq : Cert.Reference4Ideal.Read.val_main_v12 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5))
    = (Cert.Kernel4Ideal.Gen.dats m 0 c).arrAt 9 Cert.Kernel4Ideal.cfg0.N :=
  funext fun i => by
    have e : i = ix2 (i 0) (i 1) := funext fun k => by fin_cases k <;> rfl
    rw [e]
    exact (Cert.Reference4Ideal.Out.xn_at _ _ _ _ _ _ _ _).trans (Cert.Kernel4Ideal.Out.final m c _ _).symm

set_option maxHeartbeats 2000000 in
/-- From equal arguments the exact kernel and the reference both run and end with equal results. -/
theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨fun c => (Cert.Kernel4Ideal.Gen.dats m 0 c).arrAt 9 Cert.Kernel4Ideal.cfg0.N,
    (θ_run Cert.Kernel4Ideal.defs _ _).mono (fun r h c => ⟨(h c).1, (h c).2.2.2.2⟩) (Cert.Kernel4Ideal.Value.run_blocks (F := Ideal) m ρ),
    (θ_run Cert.Reference4Ideal.defs _ _).mono (fun r h c => ⟨?_, (h c).2⟩) (Cert.Reference4Ideal.Value.run (F := Ideal) m' ρ')⟩
  refine ((h c).1.trans (Cert.Reference4Ideal.Read.val_main_v12_eq (F := Ideal) _ _ _ _ _ _)).trans (Eq.trans ?_ (xn_eq m c))
  rw [← (hag c).1, ← (hag c).2.1, ← (hag c).2.2.1, ← (hag c).2.2.2.1, ← (hag c).2.2.2.2.1, ← (hag c).2.2.2.2.2.1]

end Cert.OutClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.MoeRun
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.MoeRunIdeal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.MixClaim
public import proofs.«01_k».proof.Proof.MoeTab
public import proofs.«01_k».proof.Proof.MoeTabIdeal
public import proofs.«01_k».proof.Proof.MoeClaim
public import proofs.«01_k».proof.Proof.InClaim
public import proofs.«01_k».proof.Proof.OutClaim
public import Idealize.ShloMosaic.Adequacy
public import Idealize.ShloMosaic.Init

@[expose] public section

noncomputable section

namespace Cert.Proof

open Idealize.ShloMosaic Idealize.SL.Sem Cert.Kernel

/-- Everything claimed: of the mixer call, the grouped expert call, the input projection and the output projection, the frames of the kernel, of its exact reading and of
    the reference, and the equality of the last two. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, Cert.MixClaim.frame_r,
  fun m ρ _ => Cert.Kernel2.Gen.frame m ρ (Cert.Kernel2.Moe.ok m),
  fun m ρ _ => Cert.Kernel2Ideal.Gen.frame m ρ (Cert.Kernel2Ideal.Moe.ok m), Cert.MoeClaim.frame_r,
  fun m ρ _ => Cert.Kernel3.Gen.frame m ρ, fun m ρ _ => Cert.Kernel3Ideal.Gen.frame m ρ, Cert.InClaim.frame_r,
  fun m ρ _ => Cert.Kernel4.Gen.frame m ρ, fun m ρ _ => Cert.Kernel4Ideal.Gen.frame m ρ, Cert.OutClaim.frame_r,
  trivial, Cert.MixClaim.algebraic, trivial, Cert.MoeClaim.algebraic,
  trivial, Cert.InClaim.algebraic, trivial, Cert.OutClaim.algebraic⟩

end Cert.Proof

end
